-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32x256x512 : Shape := ⟨3, ![32, 256, 512]⟩
abbrev S512x9 : Shape := ⟨2, ![512, 9]⟩
abbrev S_ : Shape := ⟨0, ![]⟩

class Facts : Prop where
  bcast_S_S512x9 : S_.BroadcastsInDim S512x9 (![] : Fin 0 → Fin S512x9.rank)
  reducesTo_S512x9_S_d0_1 : S512x9.ReducesTo [0, 1] S_
  h_S_ : 0 < S_.numel

variable [Facts]

def fn {F : FTy → Type} [FloatOps F] (main_arg0 : FVec F S32x256x512 .f32) (main_arg1 : IVec S512x9 32) : IVec S_ 1 :=
  let main_c : IVec S_ 32 := constantI S_ 32 0#32
  let main_v0 : IVec S512x9 32 := broadcastInDim S512x9 ![] bcast_S_S512x9 main_c
  let main_v1 : IVec S512x9 1 := cmpi .sge main_arg1 main_v0
  let main_c_0 : IVec S_ 32 := constantI S_ 32 512#32
  let main_v2 : IVec S512x9 32 := broadcastInDim S512x9 ![] bcast_S_S512x9 main_c_0
  let main_v3 : IVec S512x9 1 := cmpi .slt main_arg1 main_v2
  let main_v4 : IVec S512x9 1 := andi main_v1 main_v3
  let main_c_1 : IVec S_ 1 := constantI S_ 1 1#1
  let main_v5 : IVec S_ 1 := (fun x v => Host.reduce IntOp.andi x v reducesTo_S512x9_S_d0_1 h_S_) main_v4 main_c_1
  main_v5
-- ==== Kernel.lean ====
abbrev S32x256x512 : Shape := ⟨3, ![32, 256, 512]⟩
abbrev S512x9 : Shape := ⟨2, ![512, 9]⟩
abbrev S64x8x9 : Shape := ⟨3, ![64, 8, 9]⟩
abbrev S32x4x9 : Shape := ⟨3, ![32, 4, 9]⟩
abbrev S128x9 : Shape := ⟨2, ![128, 9]⟩
abbrev S9x128 : Shape := ⟨2, ![9, 128]⟩
abbrev S8192x512 : Shape := ⟨2, ![8192, 512]⟩
abbrev S512x9x128 : Shape := ⟨3, ![512, 9, 128]⟩
abbrev S1x9x128 : Shape := ⟨3, ![1, 9, 128]⟩
abbrev S512x1152 : Shape := ⟨2, ![512, 1152]⟩
abbrev S8192x128 : Shape := ⟨2, ![8192, 128]⟩
abbrev S2048x512 : Shape := ⟨2, ![2048, 512]⟩
abbrev S2048x128 : Shape := ⟨2, ![2048, 128]⟩
abbrev S512x256 : Shape := ⟨2, ![512, 256]⟩
abbrev S2048x256 : Shape := ⟨2, ![2048, 256]⟩
abbrev S512x128 : Shape := ⟨2, ![512, 128]⟩
abbrev S32x512 : Shape := ⟨2, ![32, 512]⟩
abbrev S32x128 : Shape := ⟨2, ![32, 128]⟩
abbrev S_ : Shape := ⟨0, ![]⟩
abbrev S16 : Shape := ⟨1, ![16]⟩
abbrev S1x16 : Shape := ⟨2, ![1, 16]⟩
abbrev S32x256x128 : Shape := ⟨3, ![32, 256, 128]⟩

abbrev nBuf : Table → Nat
  | .hbm => 19
  | .local .tc .vmem => 5
  | .local .scVector .vmem => 5
  | _ => 0

abbrev bufTy : (tb : Table) → Fin (nBuf tb) → BufTy
  | .hbm, ⟨0, _⟩ => ⟨S32x256x512, .f32⟩
  | .hbm, ⟨1, _⟩ => ⟨S512x9, .i32⟩
  | .hbm, ⟨2, _⟩ => ⟨S64x8x9, .i32⟩
  | .hbm, ⟨3, _⟩ => ⟨S32x4x9, .i32⟩
  | .hbm, ⟨4, _⟩ => ⟨S128x9, .i32⟩
  | .hbm, ⟨5, _⟩ => ⟨S9x128, .i32⟩
  | .hbm, ⟨6, _⟩ => ⟨S8192x512, .f32⟩
  | .hbm, ⟨7, _⟩ => ⟨S512x9x128, .i32⟩
  | .hbm, ⟨8, _⟩ => ⟨S1x9x128, .i32⟩
  | .hbm, ⟨9, _⟩ => ⟨S512x9x128, .i32⟩
  | .hbm, ⟨10, _⟩ => ⟨S512x9x128, .i1⟩
  | .hbm, ⟨11, _⟩ => ⟨S512x9x128, .bf16⟩
  | .hbm, ⟨12, _⟩ => ⟨S512x1152, .bf16⟩
  | .hbm, ⟨13, _⟩ => ⟨S8192x128, .f32⟩
  | .hbm, ⟨14, _⟩ => ⟨S2048x128, .f32⟩
  | .hbm, ⟨15, _⟩ => ⟨S_, .i32⟩
  | .hbm, ⟨16, _⟩ => ⟨S_, .i32⟩
  | .hbm, ⟨17, _⟩ => ⟨S8192x128, .f32⟩
  | .hbm, ⟨18, _⟩ => ⟨S32x256x128, .f32⟩
  | .local .tc .vmem, ⟨0, _⟩ => ⟨S2048x512, .f32⟩
  | .local .tc .vmem, ⟨1, _⟩ => ⟨S2048x512, .f32⟩
  | .local .tc .vmem, ⟨2, _⟩ => ⟨S512x1152, .bf16⟩
  | .local .tc .vmem, ⟨3, _⟩ => ⟨S2048x128, .f32⟩
  | .local .tc .vmem, ⟨4, _⟩ => ⟨S2048x128, .f32⟩
  | .local .scVector .vmem, ⟨0, _⟩ => ⟨S32x512, .f32⟩
  | .local .scVector .vmem, ⟨1, _⟩ => ⟨S32x512, .f32⟩
  | .local .scVector .vmem, ⟨2, _⟩ => ⟨S32x128, .f32⟩
  | .local .scVector .vmem, ⟨3, _⟩ => ⟨S32x128, .f32⟩
  | .local .scVector .vmem, ⟨4, _⟩ => ⟨S9x128, .i32⟩
  | _, _ => ⟨S32x256x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_v4_scv : Ref sig .scVector := ⟨.hbm, 6, rfl⟩
abbrev main_v3_scv : Ref sig .scVector := ⟨.hbm, 5, rfl⟩
abbrev main_v12_scv : Ref sig .scVector := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) (c0_i32 : BitVec 32) : Fin 2 → Nat :=
  let c6144_i32 : BitVec 32 := 6144#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi c6144_i32 v2
  let v5 : BitVec 32 := Scalar.addi v3 c0_i32
  let c0_i32_1 : BitVec 32 := 0#32
  ![v5.toNat, 0]
@[reducible] def k1_t1_loop : Scf.Loop 32 :=
  let c0_i32_17 : BitVec 32 := 0#32
  let c32_i32_18 : BitVec 32 := 32#32
  let v31 : BitVec 32 := Scalar.addi c0_i32_17 c32_i32_18
  let c1_i32_19 : BitVec 32 := 1#32
  ⟨c0_i32_17, v31, c1_i32_19⟩

def k1_chk1 (v14 : IVec S16 32) (v16 : IVec S16 32) (v18 : IVec S16 32) (v20 : IVec S16 32) (v22 : IVec S16 32) (v24 : IVec S16 32) (v26 : IVec S16 32) (v28 : IVec S16 32) (v30 : IVec S16 32) (v331 : IVec S16 32) : Prop :=
  (∀ a x, ((![v331, v14] : Fin 2 → IVec S16 32) a x).toNat < S32x512.size a) ∧
  (∀ a x, ((![v331, v16] : Fin 2 → IVec S16 32) a x).toNat < S32x512.size a) ∧
  (∀ a x, ((![v331, v18] : Fin 2 → IVec S16 32) a x).toNat < S32x512.size a) ∧
  (∀ a x, ((![v331, v20] : Fin 2 → IVec S16 32) a x).toNat < S32x512.size a) ∧
  (∀ a x, ((![v331, v22] : Fin 2 → IVec S16 32) a x).toNat < S32x512.size a) ∧
  (∀ a x, ((![v331, v24] : Fin 2 → IVec S16 32) a x).toNat < S32x512.size a) ∧
  (∀ a x, ((![v331, v26] : Fin 2 → IVec S16 32) a x).toNat < S32x512.size a) ∧
  (∀ a x, ((![v331, v28] : Fin 2 → IVec S16 32) a x).toNat < S32x512.size a) ∧
  (∀ a x, ((![v331, v30] : Fin 2 → IVec S16 32) a x).toNat < S32x512.size a)
theorem k1_idx1_inb : ∀ (v14 : IVec S16 32) (v16 : IVec S16 32) (v18 : IVec S16 32) (v20 : IVec S16 32) (v22 : IVec S16 32) (v24 : IVec S16 32) (v26 : IVec S16 32) (v28 : IVec S16 32) (v30 : IVec S16 32) (v331 : IVec S16 32) (k1_hw1 : k1_chk1 v14 v16 v18 v20 v22 v24 v26 v28 v30 v331), ∀ a x, ((![v331, v14] : Fin 2 → IVec S16 32) a x).toNat < S32x512.size a := fun v14 v16 v18 v20 v22 v24 v26 v28 v30 v331 k1_hw1 => k1_hw1.1
theorem k1_idx2_inb : ∀ (v14 : IVec S16 32) (v16 : IVec S16 32) (v18 : IVec S16 32) (v20 : IVec S16 32) (v22 : IVec S16 32) (v24 : IVec S16 32) (v26 : IVec S16 32) (v28 : IVec S16 32) (v30 : IVec S16 32) (v331 : IVec S16 32) (k1_hw1 : k1_chk1 v14 v16 v18 v20 v22 v24 v26 v28 v30 v331), ∀ a x, ((![v331, v16] : Fin 2 → IVec S16 32) a x).toNat < S32x512.size a := fun v14 v16 v18 v20 v22 v24 v26 v28 v30 v331 k1_hw1 => k1_hw1.2.1
theorem k1_idx3_inb : ∀ (v14 : IVec S16 32) (v16 : IVec S16 32) (v18 : IVec S16 32) (v20 : IVec S16 32) (v22 : IVec S16 32) (v24 : IVec S16 32) (v26 : IVec S16 32) (v28 : IVec S16 32) (v30 : IVec S16 32) (v331 : IVec S16 32) (k1_hw1 : k1_chk1 v14 v16 v18 v20 v22 v24 v26 v28 v30 v331), ∀ a x, ((![v331, v18] : Fin 2 → IVec S16 32) a x).toNat < S32x512.size a := fun v14 v16 v18 v20 v22 v24 v26 v28 v30 v331 k1_hw1 => k1_hw1.2.2.1
theorem k1_idx4_inb : ∀ (v14 : IVec S16 32) (v16 : IVec S16 32) (v18 : IVec S16 32) (v20 : IVec S16 32) (v22 : IVec S16 32) (v24 : IVec S16 32) (v26 : IVec S16 32) (v28 : IVec S16 32) (v30 : IVec S16 32) (v331 : IVec S16 32) (k1_hw1 : k1_chk1 v14 v16 v18 v20 v22 v24 v26 v28 v30 v331), ∀ a x, ((![v331, v20] : Fin 2 → IVec S16 32) a x).toNat < S32x512.size a := fun v14 v16 v18 v20 v22 v24 v26 v28 v30 v331 k1_hw1 => k1_hw1.2.2.2.1
theorem k1_idx5_inb : ∀ (v14 : IVec S16 32) (v16 : IVec S16 32) (v18 : IVec S16 32) (v20 : IVec S16 32) (v22 : IVec S16 32) (v24 : IVec S16 32) (v26 : IVec S16 32) (v28 : IVec S16 32) (v30 : IVec S16 32) (v331 : IVec S16 32) (k1_hw1 : k1_chk1 v14 v16 v18 v20 v22 v24 v26 v28 v30 v331), ∀ a x, ((![v331, v22] : Fin 2 → IVec S16 32) a x).toNat < S32x512.size a := fun v14 v16 v18 v20 v22 v24 v26 v28 v30 v331 k1_hw1 => k1_hw1.2.2.2.2.1
theorem k1_idx6_inb : ∀ (v14 : IVec S16 32) (v16 : IVec S16 32) (v18 : IVec S16 32) (v20 : IVec S16 32) (v22 : IVec S16 32) (v24 : IVec S16 32) (v26 : IVec S16 32) (v28 : IVec S16 32) (v30 : IVec S16 32) (v331 : IVec S16 32) (k1_hw1 : k1_chk1 v14 v16 v18 v20 v22 v24 v26 v28 v30 v331), ∀ a x, ((![v331, v24] : Fin 2 → IVec S16 32) a x).toNat < S32x512.size a := fun v14 v16 v18 v20 v22 v24 v26 v28 v30 v331 k1_hw1 => k1_hw1.2.2.2.2.2.1
theorem k1_idx7_inb : ∀ (v14 : IVec S16 32) (v16 : IVec S16 32) (v18 : IVec S16 32) (v20 : IVec S16 32) (v22 : IVec S16 32) (v24 : IVec S16 32) (v26 : IVec S16 32) (v28 : IVec S16 32) (v30 : IVec S16 32) (v331 : IVec S16 32) (k1_hw1 : k1_chk1 v14 v16 v18 v20 v22 v24 v26 v28 v30 v331), ∀ a x, ((![v331, v26] : Fin 2 → IVec S16 32) a x).toNat < S32x512.size a := fun v14 v16 v18 v20 v22 v24 v26 v28 v30 v331 k1_hw1 => k1_hw1.2.2.2.2.2.2.1
theorem k1_idx8_inb : ∀ (v14 : IVec S16 32) (v16 : IVec S16 32) (v18 : IVec S16 32) (v20 : IVec S16 32) (v22 : IVec S16 32) (v24 : IVec S16 32) (v26 : IVec S16 32) (v28 : IVec S16 32) (v30 : IVec S16 32) (v331 : IVec S16 32) (k1_hw1 : k1_chk1 v14 v16 v18 v20 v22 v24 v26 v28 v30 v331), ∀ a x, ((![v331, v28] : Fin 2 → IVec S16 32) a x).toNat < S32x512.size a := fun v14 v16 v18 v20 v22 v24 v26 v28 v30 v331 k1_hw1 => k1_hw1.2.2.2.2.2.2.2.1
theorem k1_idx9_inb : ∀ (v14 : IVec S16 32) (v16 : IVec S16 32) (v18 : IVec S16 32) (v20 : IVec S16 32) (v22 : IVec S16 32) (v24 : IVec S16 32) (v26 : IVec S16 32) (v28 : IVec S16 32) (v30 : IVec S16 32) (v331 : IVec S16 32) (k1_hw1 : k1_chk1 v14 v16 v18 v20 v22 v24 v26 v28 v30 v331), ∀ a x, ((![v331, v30] : Fin 2 → IVec S16 32) a x).toNat < S32x512.size a := fun v14 v16 v18 v20 v22 v24 v26 v28 v30 v331 k1_hw1 => k1_hw1.2.2.2.2.2.2.2.2
def k1_off2 (k1_t1 : Fin k1_t1_loop.trips) : Fin 2 → Nat :=
  let c0_i32_357 : BitVec 32 := 0#32
  let c0_i32_17 : BitVec 32 := 0#32
  let c1_i32_19 : BitVec 32 := 1#32
  let arg14 : BitVec 32 := Scf.iv c0_i32_17 c1_i32_19 k1_t1
  let c1_i32_356 : BitVec 32 := 1#32
  let v329 : BitVec 32 := Scalar.muli arg14 c1_i32_356
  let v330 : BitVec 32 := Scalar.addi c0_i32_357 v329
  let v349 : Index := Scalar.indexCast v330
  let c0_358 : Index := 0#32
  ![v349.toNat, 0]
@[reducible] def k1_t2_loop : Scf.Loop 32 :=
  let c0_i32_38 : BitVec 32 := 0#32
  let c32_i32_39 : BitVec 32 := 32#32
  let v50 : BitVec 32 := Scalar.addi c0_i32_38 c32_i32_39
  let c1_i32_40 : BitVec 32 := 1#32
  ⟨c0_i32_38, v50, c1_i32_40⟩

def k1_chk2 (v33 : IVec S16 32) (v35 : IVec S16 32) (v37 : IVec S16 32) (v39 : IVec S16 32) (v41 : IVec S16 32) (v43 : IVec S16 32) (v45 : IVec S16 32) (v47 : IVec S16 32) (v49 : IVec S16 32) (v331 : IVec S16 32) : Prop :=
  (∀ a x, ((![v331, v33] : Fin 2 → IVec S16 32) a x).toNat < S32x512.size a) ∧
  (∀ a x, ((![v331, v35] : Fin 2 → IVec S16 32) a x).toNat < S32x512.size a) ∧
  (∀ a x, ((![v331, v37] : Fin 2 → IVec S16 32) a x).toNat < S32x512.size a) ∧
  (∀ a x, ((![v331, v39] : Fin 2 → IVec S16 32) a x).toNat < S32x512.size a) ∧
  (∀ a x, ((![v331, v41] : Fin 2 → IVec S16 32) a x).toNat < S32x512.size a) ∧
  (∀ a x, ((![v331, v43] : Fin 2 → IVec S16 32) a x).toNat < S32x512.size a) ∧
  (∀ a x, ((![v331, v45] : Fin 2 → IVec S16 32) a x).toNat < S32x512.size a) ∧
  (∀ a x, ((![v331, v47] : Fin 2 → IVec S16 32) a x).toNat < S32x512.size a) ∧
  (∀ a x, ((![v331, v49] : Fin 2 → IVec S16 32) a x).toNat < S32x512.size a)
theorem k1_idx10_inb : ∀ (v33 : IVec S16 32) (v35 : IVec S16 32) (v37 : IVec S16 32) (v39 : IVec S16 32) (v41 : IVec S16 32) (v43 : IVec S16 32) (v45 : IVec S16 32) (v47 : IVec S16 32) (v49 : IVec S16 32) (v331 : IVec S16 32) (k1_hw2 : k1_chk2 v33 v35 v37 v39 v41 v43 v45 v47 v49 v331), ∀ a x, ((![v331, v33] : Fin 2 → IVec S16 32) a x).toNat < S32x512.size a := fun v33 v35 v37 v39 v41 v43 v45 v47 v49 v331 k1_hw2 => k1_hw2.1
theorem k1_idx11_inb : ∀ (v33 : IVec S16 32) (v35 : IVec S16 32) (v37 : IVec S16 32) (v39 : IVec S16 32) (v41 : IVec S16 32) (v43 : IVec S16 32) (v45 : IVec S16 32) (v47 : IVec S16 32) (v49 : IVec S16 32) (v331 : IVec S16 32) (k1_hw2 : k1_chk2 v33 v35 v37 v39 v41 v43 v45 v47 v49 v331), ∀ a x, ((![v331, v35] : Fin 2 → IVec S16 32) a x).toNat < S32x512.size a := fun v33 v35 v37 v39 v41 v43 v45 v47 v49 v331 k1_hw2 => k1_hw2.2.1
theorem k1_idx12_inb : ∀ (v33 : IVec S16 32) (v35 : IVec S16 32) (v37 : IVec S16 32) (v39 : IVec S16 32) (v41 : IVec S16 32) (v43 : IVec S16 32) (v45 : IVec S16 32) (v47 : IVec S16 32) (v49 : IVec S16 32) (v331 : IVec S16 32) (k1_hw2 : k1_chk2 v33 v35 v37 v39 v41 v43 v45 v47 v49 v331), ∀ a x, ((![v331, v37] : Fin 2 → IVec S16 32) a x).toNat < S32x512.size a := fun v33 v35 v37 v39 v41 v43 v45 v47 v49 v331 k1_hw2 => k1_hw2.2.2.1
theorem k1_idx13_inb : ∀ (v33 : IVec S16 32) (v35 : IVec S16 32) (v37 : IVec S16 32) (v39 : IVec S16 32) (v41 : IVec S16 32) (v43 : IVec S16 32) (v45 : IVec S16 32) (v47 : IVec S16 32) (v49 : IVec S16 32) (v331 : IVec S16 32) (k1_hw2 : k1_chk2 v33 v35 v37 v39 v41 v43 v45 v47 v49 v331), ∀ a x, ((![v331, v39] : Fin 2 → IVec S16 32) a x).toNat < S32x512.size a := fun v33 v35 v37 v39 v41 v43 v45 v47 v49 v331 k1_hw2 => k1_hw2.2.2.2.1
theorem k1_idx14_inb : ∀ (v33 : IVec S16 32) (v35 : IVec S16 32) (v37 : IVec S16 32) (v39 : IVec S16 32) (v41 : IVec S16 32) (v43 : IVec S16 32) (v45 : IVec S16 32) (v47 : IVec S16 32) (v49 : IVec S16 32) (v331 : IVec S16 32) (k1_hw2 : k1_chk2 v33 v35 v37 v39 v41 v43 v45 v47 v49 v331), ∀ a x, ((![v331, v41] : Fin 2 → IVec S16 32) a x).toNat < S32x512.size a := fun v33 v35 v37 v39 v41 v43 v45 v47 v49 v331 k1_hw2 => k1_hw2.2.2.2.2.1
theorem k1_idx15_inb : ∀ (v33 : IVec S16 32) (v35 : IVec S16 32) (v37 : IVec S16 32) (v39 : IVec S16 32) (v41 : IVec S16 32) (v43 : IVec S16 32) (v45 : IVec S16 32) (v47 : IVec S16 32) (v49 : IVec S16 32) (v331 : IVec S16 32) (k1_hw2 : k1_chk2 v33 v35 v37 v39 v41 v43 v45 v47 v49 v331), ∀ a x, ((![v331, v43] : Fin 2 → IVec S16 32) a x).toNat < S32x512.size a := fun v33 v35 v37 v39 v41 v43 v45 v47 v49 v331 k1_hw2 => k1_hw2.2.2.2.2.2.1
theorem k1_idx16_inb : ∀ (v33 : IVec S16 32) (v35 : IVec S16 32) (v37 : IVec S16 32) (v39 : IVec S16 32) (v41 : IVec S16 32) (v43 : IVec S16 32) (v45 : IVec S16 32) (v47 : IVec S16 32) (v49 : IVec S16 32) (v331 : IVec S16 32) (k1_hw2 : k1_chk2 v33 v35 v37 v39 v41 v43 v45 v47 v49 v331), ∀ a x, ((![v331, v45] : Fin 2 → IVec S16 32) a x).toNat < S32x512.size a := fun v33 v35 v37 v39 v41 v43 v45 v47 v49 v331 k1_hw2 => k1_hw2.2.2.2.2.2.2.1
theorem k1_idx17_inb : ∀ (v33 : IVec S16 32) (v35 : IVec S16 32) (v37 : IVec S16 32) (v39 : IVec S16 32) (v41 : IVec S16 32) (v43 : IVec S16 32) (v45 : IVec S16 32) (v47 : IVec S16 32) (v49 : IVec S16 32) (v331 : IVec S16 32) (k1_hw2 : k1_chk2 v33 v35 v37 v39 v41 v43 v45 v47 v49 v331), ∀ a x, ((![v331, v47] : Fin 2 → IVec S16 32) a x).toNat < S32x512.size a := fun v33 v35 v37 v39 v41 v43 v45 v47 v49 v331 k1_hw2 => k1_hw2.2.2.2.2.2.2.2.1
theorem k1_idx18_inb : ∀ (v33 : IVec S16 32) (v35 : IVec S16 32) (v37 : IVec S16 32) (v39 : IVec S16 32) (v41 : IVec S16 32) (v43 : IVec S16 32) (v45 : IVec S16 32) (v47 : IVec S16 32) (v49 : IVec S16 32) (v331 : IVec S16 32) (k1_hw2 : k1_chk2 v33 v35 v37 v39 v41 v43 v45 v47 v49 v331), ∀ a x, ((![v331, v49] : Fin 2 → IVec S16 32) a x).toNat < S32x512.size a := fun v33 v35 v37 v39 v41 v43 v45 v47 v49 v331 k1_hw2 => k1_hw2.2.2.2.2.2.2.2.2
def k1_off3 (k1_t2 : Fin k1_t2_loop.trips) : Fin 2 → Nat :=
  let c0_i32_357 : BitVec 32 := 0#32
  let c0_i32_38 : BitVec 32 := 0#32
  let c1_i32_40 : BitVec 32 := 1#32
  let arg14 : BitVec 32 := Scf.iv c0_i32_38 c1_i32_40 k1_t2
  let c1_i32_356 : BitVec 32 := 1#32
  let v329 : BitVec 32 := Scalar.muli arg14 c1_i32_356
  let v330 : BitVec 32 := Scalar.addi c0_i32_357 v329
  let v349 : Index := Scalar.indexCast v330
  let c16_358 : Index := 16#32
  ![v349.toNat, 16]
@[reducible] def k1_t3_loop : Scf.Loop 32 :=
  let c0_i32_59 : BitVec 32 := 0#32
  let c32_i32_60 : BitVec 32 := 32#32
  let v69 : BitVec 32 := Scalar.addi c0_i32_59 c32_i32_60
  let c1_i32_61 : BitVec 32 := 1#32
  ⟨c0_i32_59, v69, c1_i32_61⟩

def k1_chk3 (v52 : IVec S16 32) (v54 : IVec S16 32) (v56 : IVec S16 32) (v58 : IVec S16 32) (v60 : IVec S16 32) (v62 : IVec S16 32) (v64 : IVec S16 32) (v66 : IVec S16 32) (v68 : IVec S16 32) (v331 : IVec S16 32) : Prop :=
  (∀ a x, ((![v331, v52] : Fin 2 → IVec S16 32) a x).toNat < S32x512.size a) ∧
  (∀ a x, ((![v331, v54] : Fin 2 → IVec S16 32) a x).toNat < S32x512.size a) ∧
  (∀ a x, ((![v331, v56] : Fin 2 → IVec S16 32) a x).toNat < S32x512.size a) ∧
  (∀ a x, ((![v331, v58] : Fin 2 → IVec S16 32) a x).toNat < S32x512.size a) ∧
  (∀ a x, ((![v331, v60] : Fin 2 → IVec S16 32) a x).toNat < S32x512.size a) ∧
  (∀ a x, ((![v331, v62] : Fin 2 → IVec S16 32) a x).toNat < S32x512.size a) ∧
  (∀ a x, ((![v331, v64] : Fin 2 → IVec S16 32) a x).toNat < S32x512.size a) ∧
  (∀ a x, ((![v331, v66] : Fin 2 → IVec S16 32) a x).toNat < S32x512.size a) ∧
  (∀ a x, ((![v331, v68] : Fin 2 → IVec S16 32) a x).toNat < S32x512.size a)
theorem k1_idx19_inb : ∀ (v52 : IVec S16 32) (v54 : IVec S16 32) (v56 : IVec S16 32) (v58 : IVec S16 32) (v60 : IVec S16 32) (v62 : IVec S16 32) (v64 : IVec S16 32) (v66 : IVec S16 32) (v68 : IVec S16 32) (v331 : IVec S16 32) (k1_hw3 : k1_chk3 v52 v54 v56 v58 v60 v62 v64 v66 v68 v331), ∀ a x, ((![v331, v52] : Fin 2 → IVec S16 32) a x).toNat < S32x512.size a := fun v52 v54 v56 v58 v60 v62 v64 v66 v68 v331 k1_hw3 => k1_hw3.1
theorem k1_idx20_inb : ∀ (v52 : IVec S16 32) (v54 : IVec S16 32) (v56 : IVec S16 32) (v58 : IVec S16 32) (v60 : IVec S16 32) (v62 : IVec S16 32) (v64 : IVec S16 32) (v66 : IVec S16 32) (v68 : IVec S16 32) (v331 : IVec S16 32) (k1_hw3 : k1_chk3 v52 v54 v56 v58 v60 v62 v64 v66 v68 v331), ∀ a x, ((![v331, v54] : Fin 2 → IVec S16 32) a x).toNat < S32x512.size a := fun v52 v54 v56 v58 v60 v62 v64 v66 v68 v331 k1_hw3 => k1_hw3.2.1
theorem k1_idx21_inb : ∀ (v52 : IVec S16 32) (v54 : IVec S16 32) (v56 : IVec S16 32) (v58 : IVec S16 32) (v60 : IVec S16 32) (v62 : IVec S16 32) (v64 : IVec S16 32) (v66 : IVec S16 32) (v68 : IVec S16 32) (v331 : IVec S16 32) (k1_hw3 : k1_chk3 v52 v54 v56 v58 v60 v62 v64 v66 v68 v331), ∀ a x, ((![v331, v56] : Fin 2 → IVec S16 32) a x).toNat < S32x512.size a := fun v52 v54 v56 v58 v60 v62 v64 v66 v68 v331 k1_hw3 => k1_hw3.2.2.1
theorem k1_idx22_inb : ∀ (v52 : IVec S16 32) (v54 : IVec S16 32) (v56 : IVec S16 32) (v58 : IVec S16 32) (v60 : IVec S16 32) (v62 : IVec S16 32) (v64 : IVec S16 32) (v66 : IVec S16 32) (v68 : IVec S16 32) (v331 : IVec S16 32) (k1_hw3 : k1_chk3 v52 v54 v56 v58 v60 v62 v64 v66 v68 v331), ∀ a x, ((![v331, v58] : Fin 2 → IVec S16 32) a x).toNat < S32x512.size a := fun v52 v54 v56 v58 v60 v62 v64 v66 v68 v331 k1_hw3 => k1_hw3.2.2.2.1
theorem k1_idx23_inb : ∀ (v52 : IVec S16 32) (v54 : IVec S16 32) (v56 : IVec S16 32) (v58 : IVec S16 32) (v60 : IVec S16 32) (v62 : IVec S16 32) (v64 : IVec S16 32) (v66 : IVec S16 32) (v68 : IVec S16 32) (v331 : IVec S16 32) (k1_hw3 : k1_chk3 v52 v54 v56 v58 v60 v62 v64 v66 v68 v331), ∀ a x, ((![v331, v60] : Fin 2 → IVec S16 32) a x).toNat < S32x512.size a := fun v52 v54 v56 v58 v60 v62 v64 v66 v68 v331 k1_hw3 => k1_hw3.2.2.2.2.1
theorem k1_idx24_inb : ∀ (v52 : IVec S16 32) (v54 : IVec S16 32) (v56 : IVec S16 32) (v58 : IVec S16 32) (v60 : IVec S16 32) (v62 : IVec S16 32) (v64 : IVec S16 32) (v66 : IVec S16 32) (v68 : IVec S16 32) (v331 : IVec S16 32) (k1_hw3 : k1_chk3 v52 v54 v56 v58 v60 v62 v64 v66 v68 v331), ∀ a x, ((![v331, v62] : Fin 2 → IVec S16 32) a x).toNat < S32x512.size a := fun v52 v54 v56 v58 v60 v62 v64 v66 v68 v331 k1_hw3 => k1_hw3.2.2.2.2.2.1
theorem k1_idx25_inb : ∀ (v52 : IVec S16 32) (v54 : IVec S16 32) (v56 : IVec S16 32) (v58 : IVec S16 32) (v60 : IVec S16 32) (v62 : IVec S16 32) (v64 : IVec S16 32) (v66 : IVec S16 32) (v68 : IVec S16 32) (v331 : IVec S16 32) (k1_hw3 : k1_chk3 v52 v54 v56 v58 v60 v62 v64 v66 v68 v331), ∀ a x, ((![v331, v64] : Fin 2 → IVec S16 32) a x).toNat < S32x512.size a := fun v52 v54 v56 v58 v60 v62 v64 v66 v68 v331 k1_hw3 => k1_hw3.2.2.2.2.2.2.1
theorem k1_idx26_inb : ∀ (v52 : IVec S16 32) (v54 : IVec S16 32) (v56 : IVec S16 32) (v58 : IVec S16 32) (v60 : IVec S16 32) (v62 : IVec S16 32) (v64 : IVec S16 32) (v66 : IVec S16 32) (v68 : IVec S16 32) (v331 : IVec S16 32) (k1_hw3 : k1_chk3 v52 v54 v56 v58 v60 v62 v64 v66 v68 v331), ∀ a x, ((![v331, v66] : Fin 2 → IVec S16 32) a x).toNat < S32x512.size a := fun v52 v54 v56 v58 v60 v62 v64 v66 v68 v331 k1_hw3 => k1_hw3.2.2.2.2.2.2.2.1
theorem k1_idx27_inb : ∀ (v52 : IVec S16 32) (v54 : IVec S16 32) (v56 : IVec S16 32) (v58 : IVec S16 32) (v60 : IVec S16 32) (v62 : IVec S16 32) (v64 : IVec S16 32) (v66 : IVec S16 32) (v68 : IVec S16 32) (v331 : IVec S16 32) (k1_hw3 : k1_chk3 v52 v54 v56 v58 v60 v62 v64 v66 v68 v331), ∀ a x, ((![v331, v68] : Fin 2 → IVec S16 32) a x).toNat < S32x512.size a := fun v52 v54 v56 v58 v60 v62 v64 v66 v68 v331 k1_hw3 => k1_hw3.2.2.2.2.2.2.2.2
def k1_off4 (k1_t3 : Fin k1_t3_loop.trips) : Fin 2 → Nat :=
  let c0_i32_357 : BitVec 32 := 0#32
  let c0_i32_59 : BitVec 32 := 0#32
  let c1_i32_61 : BitVec 32 := 1#32
  let arg14 : BitVec 32 := Scf.iv c0_i32_59 c1_i32_61 k1_t3
  let c1_i32_356 : BitVec 32 := 1#32
  let v329 : BitVec 32 := Scalar.muli arg14 c1_i32_356
  let v330 : BitVec 32 := Scalar.addi c0_i32_357 v329
  let v349 : Index := Scalar.indexCast v330
  let c32_358 : Index := 32#32
  ![v349.toNat, 32]
@[reducible] def k1_t4_loop : Scf.Loop 32 :=
  let c0_i32_80 : BitVec 32 := 0#32
  let c32_i32_81 : BitVec 32 := 32#32
  let v88 : BitVec 32 := Scalar.addi c0_i32_80 c32_i32_81
  let c1_i32_82 : BitVec 32 := 1#32
  ⟨c0_i32_80, v88, c1_i32_82⟩

def k1_chk4 (v71 : IVec S16 32) (v73 : IVec S16 32) (v75 : IVec S16 32) (v77 : IVec S16 32) (v79 : IVec S16 32) (v81 : IVec S16 32) (v83 : IVec S16 32) (v85 : IVec S16 32) (v87 : IVec S16 32) (v331 : IVec S16 32) : Prop :=
  (∀ a x, ((![v331, v71] : Fin 2 → IVec S16 32) a x).toNat < S32x512.size a) ∧
  (∀ a x, ((![v331, v73] : Fin 2 → IVec S16 32) a x).toNat < S32x512.size a) ∧
  (∀ a x, ((![v331, v75] : Fin 2 → IVec S16 32) a x).toNat < S32x512.size a) ∧
  (∀ a x, ((![v331, v77] : Fin 2 → IVec S16 32) a x).toNat < S32x512.size a) ∧
  (∀ a x, ((![v331, v79] : Fin 2 → IVec S16 32) a x).toNat < S32x512.size a) ∧
  (∀ a x, ((![v331, v81] : Fin 2 → IVec S16 32) a x).toNat < S32x512.size a) ∧
  (∀ a x, ((![v331, v83] : Fin 2 → IVec S16 32) a x).toNat < S32x512.size a) ∧
  (∀ a x, ((![v331, v85] : Fin 2 → IVec S16 32) a x).toNat < S32x512.size a) ∧
  (∀ a x, ((![v331, v87] : Fin 2 → IVec S16 32) a x).toNat < S32x512.size a)
theorem k1_idx28_inb : ∀ (v71 : IVec S16 32) (v73 : IVec S16 32) (v75 : IVec S16 32) (v77 : IVec S16 32) (v79 : IVec S16 32) (v81 : IVec S16 32) (v83 : IVec S16 32) (v85 : IVec S16 32) (v87 : IVec S16 32) (v331 : IVec S16 32) (k1_hw4 : k1_chk4 v71 v73 v75 v77 v79 v81 v83 v85 v87 v331), ∀ a x, ((![v331, v71] : Fin 2 → IVec S16 32) a x).toNat < S32x512.size a := fun v71 v73 v75 v77 v79 v81 v83 v85 v87 v331 k1_hw4 => k1_hw4.1
theorem k1_idx29_inb : ∀ (v71 : IVec S16 32) (v73 : IVec S16 32) (v75 : IVec S16 32) (v77 : IVec S16 32) (v79 : IVec S16 32) (v81 : IVec S16 32) (v83 : IVec S16 32) (v85 : IVec S16 32) (v87 : IVec S16 32) (v331 : IVec S16 32) (k1_hw4 : k1_chk4 v71 v73 v75 v77 v79 v81 v83 v85 v87 v331), ∀ a x, ((![v331, v73] : Fin 2 → IVec S16 32) a x).toNat < S32x512.size a := fun v71 v73 v75 v77 v79 v81 v83 v85 v87 v331 k1_hw4 => k1_hw4.2.1
theorem k1_idx30_inb : ∀ (v71 : IVec S16 32) (v73 : IVec S16 32) (v75 : IVec S16 32) (v77 : IVec S16 32) (v79 : IVec S16 32) (v81 : IVec S16 32) (v83 : IVec S16 32) (v85 : IVec S16 32) (v87 : IVec S16 32) (v331 : IVec S16 32) (k1_hw4 : k1_chk4 v71 v73 v75 v77 v79 v81 v83 v85 v87 v331), ∀ a x, ((![v331, v75] : Fin 2 → IVec S16 32) a x).toNat < S32x512.size a := fun v71 v73 v75 v77 v79 v81 v83 v85 v87 v331 k1_hw4 => k1_hw4.2.2.1
theorem k1_idx31_inb : ∀ (v71 : IVec S16 32) (v73 : IVec S16 32) (v75 : IVec S16 32) (v77 : IVec S16 32) (v79 : IVec S16 32) (v81 : IVec S16 32) (v83 : IVec S16 32) (v85 : IVec S16 32) (v87 : IVec S16 32) (v331 : IVec S16 32) (k1_hw4 : k1_chk4 v71 v73 v75 v77 v79 v81 v83 v85 v87 v331), ∀ a x, ((![v331, v77] : Fin 2 → IVec S16 32) a x).toNat < S32x512.size a := fun v71 v73 v75 v77 v79 v81 v83 v85 v87 v331 k1_hw4 => k1_hw4.2.2.2.1
theorem k1_idx32_inb : ∀ (v71 : IVec S16 32) (v73 : IVec S16 32) (v75 : IVec S16 32) (v77 : IVec S16 32) (v79 : IVec S16 32) (v81 : IVec S16 32) (v83 : IVec S16 32) (v85 : IVec S16 32) (v87 : IVec S16 32) (v331 : IVec S16 32) (k1_hw4 : k1_chk4 v71 v73 v75 v77 v79 v81 v83 v85 v87 v331), ∀ a x, ((![v331, v79] : Fin 2 → IVec S16 32) a x).toNat < S32x512.size a := fun v71 v73 v75 v77 v79 v81 v83 v85 v87 v331 k1_hw4 => k1_hw4.2.2.2.2.1
theorem k1_idx33_inb : ∀ (v71 : IVec S16 32) (v73 : IVec S16 32) (v75 : IVec S16 32) (v77 : IVec S16 32) (v79 : IVec S16 32) (v81 : IVec S16 32) (v83 : IVec S16 32) (v85 : IVec S16 32) (v87 : IVec S16 32) (v331 : IVec S16 32) (k1_hw4 : k1_chk4 v71 v73 v75 v77 v79 v81 v83 v85 v87 v331), ∀ a x, ((![v331, v81] : Fin 2 → IVec S16 32) a x).toNat < S32x512.size a := fun v71 v73 v75 v77 v79 v81 v83 v85 v87 v331 k1_hw4 => k1_hw4.2.2.2.2.2.1
theorem k1_idx34_inb : ∀ (v71 : IVec S16 32) (v73 : IVec S16 32) (v75 : IVec S16 32) (v77 : IVec S16 32) (v79 : IVec S16 32) (v81 : IVec S16 32) (v83 : IVec S16 32) (v85 : IVec S16 32) (v87 : IVec S16 32) (v331 : IVec S16 32) (k1_hw4 : k1_chk4 v71 v73 v75 v77 v79 v81 v83 v85 v87 v331), ∀ a x, ((![v331, v83] : Fin 2 → IVec S16 32) a x).toNat < S32x512.size a := fun v71 v73 v75 v77 v79 v81 v83 v85 v87 v331 k1_hw4 => k1_hw4.2.2.2.2.2.2.1
theorem k1_idx35_inb : ∀ (v71 : IVec S16 32) (v73 : IVec S16 32) (v75 : IVec S16 32) (v77 : IVec S16 32) (v79 : IVec S16 32) (v81 : IVec S16 32) (v83 : IVec S16 32) (v85 : IVec S16 32) (v87 : IVec S16 32) (v331 : IVec S16 32) (k1_hw4 : k1_chk4 v71 v73 v75 v77 v79 v81 v83 v85 v87 v331), ∀ a x, ((![v331, v85] : Fin 2 → IVec S16 32) a x).toNat < S32x512.size a := fun v71 v73 v75 v77 v79 v81 v83 v85 v87 v331 k1_hw4 => k1_hw4.2.2.2.2.2.2.2.1
theorem k1_idx36_inb : ∀ (v71 : IVec S16 32) (v73 : IVec S16 32) (v75 : IVec S16 32) (v77 : IVec S16 32) (v79 : IVec S16 32) (v81 : IVec S16 32) (v83 : IVec S16 32) (v85 : IVec S16 32) (v87 : IVec S16 32) (v331 : IVec S16 32) (k1_hw4 : k1_chk4 v71 v73 v75 v77 v79 v81 v83 v85 v87 v331), ∀ a x, ((![v331, v87] : Fin 2 → IVec S16 32) a x).toNat < S32x512.size a := fun v71 v73 v75 v77 v79 v81 v83 v85 v87 v331 k1_hw4 => k1_hw4.2.2.2.2.2.2.2.2
def k1_off5 (k1_t4 : Fin k1_t4_loop.trips) : Fin 2 → Nat :=
  let c0_i32_357 : BitVec 32 := 0#32
  let c0_i32_80 : BitVec 32 := 0#32
  let c1_i32_82 : BitVec 32 := 1#32
  let arg14 : BitVec 32 := Scf.iv c0_i32_80 c1_i32_82 k1_t4
  let c1_i32_356 : BitVec 32 := 1#32
  let v329 : BitVec 32 := Scalar.muli arg14 c1_i32_356
  let v330 : BitVec 32 := Scalar.addi c0_i32_357 v329
  let v349 : Index := Scalar.indexCast v330
  let c48_358 : Index := 48#32
  ![v349.toNat, 48]
@[reducible] def k1_t5_loop : Scf.Loop 32 :=
  let c0_i32_101 : BitVec 32 := 0#32
  let c32_i32_102 : BitVec 32 := 32#32
  let v107 : BitVec 32 := Scalar.addi c0_i32_101 c32_i32_102
  let c1_i32_103 : BitVec 32 := 1#32
  ⟨c0_i32_101, v107, c1_i32_103⟩

def k1_chk5 (v90 : IVec S16 32) (v92 : IVec S16 32) (v94 : IVec S16 32) (v96 : IVec S16 32) (v98 : IVec S16 32) (v100 : IVec S16 32) (v102 : IVec S16 32) (v104 : IVec S16 32) (v106 : IVec S16 32) (v331 : IVec S16 32) : Prop :=
  (∀ a x, ((![v331, v90] : Fin 2 → IVec S16 32) a x).toNat < S32x512.size a) ∧
  (∀ a x, ((![v331, v92] : Fin 2 → IVec S16 32) a x).toNat < S32x512.size a) ∧
  (∀ a x, ((![v331, v94] : Fin 2 → IVec S16 32) a x).toNat < S32x512.size a) ∧
  (∀ a x, ((![v331, v96] : Fin 2 → IVec S16 32) a x).toNat < S32x512.size a) ∧
  (∀ a x, ((![v331, v98] : Fin 2 → IVec S16 32) a x).toNat < S32x512.size a) ∧
  (∀ a x, ((![v331, v100] : Fin 2 → IVec S16 32) a x).toNat < S32x512.size a) ∧
  (∀ a x, ((![v331, v102] : Fin 2 → IVec S16 32) a x).toNat < S32x512.size a) ∧
  (∀ a x, ((![v331, v104] : Fin 2 → IVec S16 32) a x).toNat < S32x512.size a) ∧
  (∀ a x, ((![v331, v106] : Fin 2 → IVec S16 32) a x).toNat < S32x512.size a)
theorem k1_idx37_inb : ∀ (v90 : IVec S16 32) (v92 : IVec S16 32) (v94 : IVec S16 32) (v96 : IVec S16 32) (v98 : IVec S16 32) (v100 : IVec S16 32) (v102 : IVec S16 32) (v104 : IVec S16 32) (v106 : IVec S16 32) (v331 : IVec S16 32) (k1_hw5 : k1_chk5 v90 v92 v94 v96 v98 v100 v102 v104 v106 v331), ∀ a x, ((![v331, v90] : Fin 2 → IVec S16 32) a x).toNat < S32x512.size a := fun v90 v92 v94 v96 v98 v100 v102 v104 v106 v331 k1_hw5 => k1_hw5.1
theorem k1_idx38_inb : ∀ (v90 : IVec S16 32) (v92 : IVec S16 32) (v94 : IVec S16 32) (v96 : IVec S16 32) (v98 : IVec S16 32) (v100 : IVec S16 32) (v102 : IVec S16 32) (v104 : IVec S16 32) (v106 : IVec S16 32) (v331 : IVec S16 32) (k1_hw5 : k1_chk5 v90 v92 v94 v96 v98 v100 v102 v104 v106 v331), ∀ a x, ((![v331, v92] : Fin 2 → IVec S16 32) a x).toNat < S32x512.size a := fun v90 v92 v94 v96 v98 v100 v102 v104 v106 v331 k1_hw5 => k1_hw5.2.1
theorem k1_idx39_inb : ∀ (v90 : IVec S16 32) (v92 : IVec S16 32) (v94 : IVec S16 32) (v96 : IVec S16 32) (v98 : IVec S16 32) (v100 : IVec S16 32) (v102 : IVec S16 32) (v104 : IVec S16 32) (v106 : IVec S16 32) (v331 : IVec S16 32) (k1_hw5 : k1_chk5 v90 v92 v94 v96 v98 v100 v102 v104 v106 v331), ∀ a x, ((![v331, v94] : Fin 2 → IVec S16 32) a x).toNat < S32x512.size a := fun v90 v92 v94 v96 v98 v100 v102 v104 v106 v331 k1_hw5 => k1_hw5.2.2.1
theorem k1_idx40_inb : ∀ (v90 : IVec S16 32) (v92 : IVec S16 32) (v94 : IVec S16 32) (v96 : IVec S16 32) (v98 : IVec S16 32) (v100 : IVec S16 32) (v102 : IVec S16 32) (v104 : IVec S16 32) (v106 : IVec S16 32) (v331 : IVec S16 32) (k1_hw5 : k1_chk5 v90 v92 v94 v96 v98 v100 v102 v104 v106 v331), ∀ a x, ((![v331, v96] : Fin 2 → IVec S16 32) a x).toNat < S32x512.size a := fun v90 v92 v94 v96 v98 v100 v102 v104 v106 v331 k1_hw5 => k1_hw5.2.2.2.1
theorem k1_idx41_inb : ∀ (v90 : IVec S16 32) (v92 : IVec S16 32) (v94 : IVec S16 32) (v96 : IVec S16 32) (v98 : IVec S16 32) (v100 : IVec S16 32) (v102 : IVec S16 32) (v104 : IVec S16 32) (v106 : IVec S16 32) (v331 : IVec S16 32) (k1_hw5 : k1_chk5 v90 v92 v94 v96 v98 v100 v102 v104 v106 v331), ∀ a x, ((![v331, v98] : Fin 2 → IVec S16 32) a x).toNat < S32x512.size a := fun v90 v92 v94 v96 v98 v100 v102 v104 v106 v331 k1_hw5 => k1_hw5.2.2.2.2.1
theorem k1_idx42_inb : ∀ (v90 : IVec S16 32) (v92 : IVec S16 32) (v94 : IVec S16 32) (v96 : IVec S16 32) (v98 : IVec S16 32) (v100 : IVec S16 32) (v102 : IVec S16 32) (v104 : IVec S16 32) (v106 : IVec S16 32) (v331 : IVec S16 32) (k1_hw5 : k1_chk5 v90 v92 v94 v96 v98 v100 v102 v104 v106 v331), ∀ a x, ((![v331, v100] : Fin 2 → IVec S16 32) a x).toNat < S32x512.size a := fun v90 v92 v94 v96 v98 v100 v102 v104 v106 v331 k1_hw5 => k1_hw5.2.2.2.2.2.1
theorem k1_idx43_inb : ∀ (v90 : IVec S16 32) (v92 : IVec S16 32) (v94 : IVec S16 32) (v96 : IVec S16 32) (v98 : IVec S16 32) (v100 : IVec S16 32) (v102 : IVec S16 32) (v104 : IVec S16 32) (v106 : IVec S16 32) (v331 : IVec S16 32) (k1_hw5 : k1_chk5 v90 v92 v94 v96 v98 v100 v102 v104 v106 v331), ∀ a x, ((![v331, v102] : Fin 2 → IVec S16 32) a x).toNat < S32x512.size a := fun v90 v92 v94 v96 v98 v100 v102 v104 v106 v331 k1_hw5 => k1_hw5.2.2.2.2.2.2.1
theorem k1_idx44_inb : ∀ (v90 : IVec S16 32) (v92 : IVec S16 32) (v94 : IVec S16 32) (v96 : IVec S16 32) (v98 : IVec S16 32) (v100 : IVec S16 32) (v102 : IVec S16 32) (v104 : IVec S16 32) (v106 : IVec S16 32) (v331 : IVec S16 32) (k1_hw5 : k1_chk5 v90 v92 v94 v96 v98 v100 v102 v104 v106 v331), ∀ a x, ((![v331, v104] : Fin 2 → IVec S16 32) a x).toNat < S32x512.size a := fun v90 v92 v94 v96 v98 v100 v102 v104 v106 v331 k1_hw5 => k1_hw5.2.2.2.2.2.2.2.1
theorem k1_idx45_inb : ∀ (v90 : IVec S16 32) (v92 : IVec S16 32) (v94 : IVec S16 32) (v96 : IVec S16 32) (v98 : IVec S16 32) (v100 : IVec S16 32) (v102 : IVec S16 32) (v104 : IVec S16 32) (v106 : IVec S16 32) (v331 : IVec S16 32) (k1_hw5 : k1_chk5 v90 v92 v94 v96 v98 v100 v102 v104 v106 v331), ∀ a x, ((![v331, v106] : Fin 2 → IVec S16 32) a x).toNat < S32x512.size a := fun v90 v92 v94 v96 v98 v100 v102 v104 v106 v331 k1_hw5 => k1_hw5.2.2.2.2.2.2.2.2
def k1_off6 (k1_t5 : Fin k1_t5_loop.trips) : Fin 2 → Nat :=
  let c0_i32_357 : BitVec 32 := 0#32
  let c0_i32_101 : BitVec 32 := 0#32
  let c1_i32_103 : BitVec 32 := 1#32
  let arg14 : BitVec 32 := Scf.iv c0_i32_101 c1_i32_103 k1_t5
  let c1_i32_356 : BitVec 32 := 1#32
  let v329 : BitVec 32 := Scalar.muli arg14 c1_i32_356
  let v330 : BitVec 32 := Scalar.addi c0_i32_357 v329
  let v349 : Index := Scalar.indexCast v330
  let c64_358 : Index := 64#32
  ![v349.toNat, 64]
@[reducible] def k1_t6_loop : Scf.Loop 32 :=
  let c0_i32_122 : BitVec 32 := 0#32
  let c32_i32_123 : BitVec 32 := 32#32
  let v126 : BitVec 32 := Scalar.addi c0_i32_122 c32_i32_123
  let c1_i32_124 : BitVec 32 := 1#32
  ⟨c0_i32_122, v126, c1_i32_124⟩

def k1_chk6 (v109 : IVec S16 32) (v111 : IVec S16 32) (v113 : IVec S16 32) (v115 : IVec S16 32) (v117 : IVec S16 32) (v119 : IVec S16 32) (v121 : IVec S16 32) (v123 : IVec S16 32) (v125 : IVec S16 32) (v331 : IVec S16 32) : Prop :=
  (∀ a x, ((![v331, v109] : Fin 2 → IVec S16 32) a x).toNat < S32x512.size a) ∧
  (∀ a x, ((![v331, v111] : Fin 2 → IVec S16 32) a x).toNat < S32x512.size a) ∧
  (∀ a x, ((![v331, v113] : Fin 2 → IVec S16 32) a x).toNat < S32x512.size a) ∧
  (∀ a x, ((![v331, v115] : Fin 2 → IVec S16 32) a x).toNat < S32x512.size a) ∧
  (∀ a x, ((![v331, v117] : Fin 2 → IVec S16 32) a x).toNat < S32x512.size a) ∧
  (∀ a x, ((![v331, v119] : Fin 2 → IVec S16 32) a x).toNat < S32x512.size a) ∧
  (∀ a x, ((![v331, v121] : Fin 2 → IVec S16 32) a x).toNat < S32x512.size a) ∧
  (∀ a x, ((![v331, v123] : Fin 2 → IVec S16 32) a x).toNat < S32x512.size a) ∧
  (∀ a x, ((![v331, v125] : Fin 2 → IVec S16 32) a x).toNat < S32x512.size a)
theorem k1_idx46_inb : ∀ (v109 : IVec S16 32) (v111 : IVec S16 32) (v113 : IVec S16 32) (v115 : IVec S16 32) (v117 : IVec S16 32) (v119 : IVec S16 32) (v121 : IVec S16 32) (v123 : IVec S16 32) (v125 : IVec S16 32) (v331 : IVec S16 32) (k1_hw6 : k1_chk6 v109 v111 v113 v115 v117 v119 v121 v123 v125 v331), ∀ a x, ((![v331, v109] : Fin 2 → IVec S16 32) a x).toNat < S32x512.size a := fun v109 v111 v113 v115 v117 v119 v121 v123 v125 v331 k1_hw6 => k1_hw6.1
theorem k1_idx47_inb : ∀ (v109 : IVec S16 32) (v111 : IVec S16 32) (v113 : IVec S16 32) (v115 : IVec S16 32) (v117 : IVec S16 32) (v119 : IVec S16 32) (v121 : IVec S16 32) (v123 : IVec S16 32) (v125 : IVec S16 32) (v331 : IVec S16 32) (k1_hw6 : k1_chk6 v109 v111 v113 v115 v117 v119 v121 v123 v125 v331), ∀ a x, ((![v331, v111] : Fin 2 → IVec S16 32) a x).toNat < S32x512.size a := fun v109 v111 v113 v115 v117 v119 v121 v123 v125 v331 k1_hw6 => k1_hw6.2.1
theorem k1_idx48_inb : ∀ (v109 : IVec S16 32) (v111 : IVec S16 32) (v113 : IVec S16 32) (v115 : IVec S16 32) (v117 : IVec S16 32) (v119 : IVec S16 32) (v121 : IVec S16 32) (v123 : IVec S16 32) (v125 : IVec S16 32) (v331 : IVec S16 32) (k1_hw6 : k1_chk6 v109 v111 v113 v115 v117 v119 v121 v123 v125 v331), ∀ a x, ((![v331, v113] : Fin 2 → IVec S16 32) a x).toNat < S32x512.size a := fun v109 v111 v113 v115 v117 v119 v121 v123 v125 v331 k1_hw6 => k1_hw6.2.2.1
theorem k1_idx49_inb : ∀ (v109 : IVec S16 32) (v111 : IVec S16 32) (v113 : IVec S16 32) (v115 : IVec S16 32) (v117 : IVec S16 32) (v119 : IVec S16 32) (v121 : IVec S16 32) (v123 : IVec S16 32) (v125 : IVec S16 32) (v331 : IVec S16 32) (k1_hw6 : k1_chk6 v109 v111 v113 v115 v117 v119 v121 v123 v125 v331), ∀ a x, ((![v331, v115] : Fin 2 → IVec S16 32) a x).toNat < S32x512.size a := fun v109 v111 v113 v115 v117 v119 v121 v123 v125 v331 k1_hw6 => k1_hw6.2.2.2.1
theorem k1_idx50_inb : ∀ (v109 : IVec S16 32) (v111 : IVec S16 32) (v113 : IVec S16 32) (v115 : IVec S16 32) (v117 : IVec S16 32) (v119 : IVec S16 32) (v121 : IVec S16 32) (v123 : IVec S16 32) (v125 : IVec S16 32) (v331 : IVec S16 32) (k1_hw6 : k1_chk6 v109 v111 v113 v115 v117 v119 v121 v123 v125 v331), ∀ a x, ((![v331, v117] : Fin 2 → IVec S16 32) a x).toNat < S32x512.size a := fun v109 v111 v113 v115 v117 v119 v121 v123 v125 v331 k1_hw6 => k1_hw6.2.2.2.2.1
theorem k1_idx51_inb : ∀ (v109 : IVec S16 32) (v111 : IVec S16 32) (v113 : IVec S16 32) (v115 : IVec S16 32) (v117 : IVec S16 32) (v119 : IVec S16 32) (v121 : IVec S16 32) (v123 : IVec S16 32) (v125 : IVec S16 32) (v331 : IVec S16 32) (k1_hw6 : k1_chk6 v109 v111 v113 v115 v117 v119 v121 v123 v125 v331), ∀ a x, ((![v331, v119] : Fin 2 → IVec S16 32) a x).toNat < S32x512.size a := fun v109 v111 v113 v115 v117 v119 v121 v123 v125 v331 k1_hw6 => k1_hw6.2.2.2.2.2.1
theorem k1_idx52_inb : ∀ (v109 : IVec S16 32) (v111 : IVec S16 32) (v113 : IVec S16 32) (v115 : IVec S16 32) (v117 : IVec S16 32) (v119 : IVec S16 32) (v121 : IVec S16 32) (v123 : IVec S16 32) (v125 : IVec S16 32) (v331 : IVec S16 32) (k1_hw6 : k1_chk6 v109 v111 v113 v115 v117 v119 v121 v123 v125 v331), ∀ a x, ((![v331, v121] : Fin 2 → IVec S16 32) a x).toNat < S32x512.size a := fun v109 v111 v113 v115 v117 v119 v121 v123 v125 v331 k1_hw6 => k1_hw6.2.2.2.2.2.2.1
theorem k1_idx53_inb : ∀ (v109 : IVec S16 32) (v111 : IVec S16 32) (v113 : IVec S16 32) (v115 : IVec S16 32) (v117 : IVec S16 32) (v119 : IVec S16 32) (v121 : IVec S16 32) (v123 : IVec S16 32) (v125 : IVec S16 32) (v331 : IVec S16 32) (k1_hw6 : k1_chk6 v109 v111 v113 v115 v117 v119 v121 v123 v125 v331), ∀ a x, ((![v331, v123] : Fin 2 → IVec S16 32) a x).toNat < S32x512.size a := fun v109 v111 v113 v115 v117 v119 v121 v123 v125 v331 k1_hw6 => k1_hw6.2.2.2.2.2.2.2.1
theorem k1_idx54_inb : ∀ (v109 : IVec S16 32) (v111 : IVec S16 32) (v113 : IVec S16 32) (v115 : IVec S16 32) (v117 : IVec S16 32) (v119 : IVec S16 32) (v121 : IVec S16 32) (v123 : IVec S16 32) (v125 : IVec S16 32) (v331 : IVec S16 32) (k1_hw6 : k1_chk6 v109 v111 v113 v115 v117 v119 v121 v123 v125 v331), ∀ a x, ((![v331, v125] : Fin 2 → IVec S16 32) a x).toNat < S32x512.size a := fun v109 v111 v113 v115 v117 v119 v121 v123 v125 v331 k1_hw6 => k1_hw6.2.2.2.2.2.2.2.2
def k1_off7 (k1_t6 : Fin k1_t6_loop.trips) : Fin 2 → Nat :=
  let c0_i32_357 : BitVec 32 := 0#32
  let c0_i32_122 : BitVec 32 := 0#32
  let c1_i32_124 : BitVec 32 := 1#32
  let arg14 : BitVec 32 := Scf.iv c0_i32_122 c1_i32_124 k1_t6
  let c1_i32_356 : BitVec 32 := 1#32
  let v329 : BitVec 32 := Scalar.muli arg14 c1_i32_356
  let v330 : BitVec 32 := Scalar.addi c0_i32_357 v329
  let v349 : Index := Scalar.indexCast v330
  let c80_358 : Index := 80#32
  ![v349.toNat, 80]
@[reducible] def k1_t7_loop : Scf.Loop 32 :=
  let c0_i32_143 : BitVec 32 := 0#32
  let c32_i32_144 : BitVec 32 := 32#32
  let v145 : BitVec 32 := Scalar.addi c0_i32_143 c32_i32_144
  let c1_i32_145 : BitVec 32 := 1#32
  ⟨c0_i32_143, v145, c1_i32_145⟩

def k1_chk7 (v128 : IVec S16 32) (v130 : IVec S16 32) (v132 : IVec S16 32) (v134 : IVec S16 32) (v136 : IVec S16 32) (v138 : IVec S16 32) (v140 : IVec S16 32) (v142 : IVec S16 32) (v144 : IVec S16 32) (v331 : IVec S16 32) : Prop :=
  (∀ a x, ((![v331, v128] : Fin 2 → IVec S16 32) a x).toNat < S32x512.size a) ∧
  (∀ a x, ((![v331, v130] : Fin 2 → IVec S16 32) a x).toNat < S32x512.size a) ∧
  (∀ a x, ((![v331, v132] : Fin 2 → IVec S16 32) a x).toNat < S32x512.size a) ∧
  (∀ a x, ((![v331, v134] : Fin 2 → IVec S16 32) a x).toNat < S32x512.size a) ∧
  (∀ a x, ((![v331, v136] : Fin 2 → IVec S16 32) a x).toNat < S32x512.size a) ∧
  (∀ a x, ((![v331, v138] : Fin 2 → IVec S16 32) a x).toNat < S32x512.size a) ∧
  (∀ a x, ((![v331, v140] : Fin 2 → IVec S16 32) a x).toNat < S32x512.size a) ∧
  (∀ a x, ((![v331, v142] : Fin 2 → IVec S16 32) a x).toNat < S32x512.size a) ∧
  (∀ a x, ((![v331, v144] : Fin 2 → IVec S16 32) a x).toNat < S32x512.size a)
theorem k1_idx55_inb : ∀ (v128 : IVec S16 32) (v130 : IVec S16 32) (v132 : IVec S16 32) (v134 : IVec S16 32) (v136 : IVec S16 32) (v138 : IVec S16 32) (v140 : IVec S16 32) (v142 : IVec S16 32) (v144 : IVec S16 32) (v331 : IVec S16 32) (k1_hw7 : k1_chk7 v128 v130 v132 v134 v136 v138 v140 v142 v144 v331), ∀ a x, ((![v331, v128] : Fin 2 → IVec S16 32) a x).toNat < S32x512.size a := fun v128 v130 v132 v134 v136 v138 v140 v142 v144 v331 k1_hw7 => k1_hw7.1
theorem k1_idx56_inb : ∀ (v128 : IVec S16 32) (v130 : IVec S16 32) (v132 : IVec S16 32) (v134 : IVec S16 32) (v136 : IVec S16 32) (v138 : IVec S16 32) (v140 : IVec S16 32) (v142 : IVec S16 32) (v144 : IVec S16 32) (v331 : IVec S16 32) (k1_hw7 : k1_chk7 v128 v130 v132 v134 v136 v138 v140 v142 v144 v331), ∀ a x, ((![v331, v130] : Fin 2 → IVec S16 32) a x).toNat < S32x512.size a := fun v128 v130 v132 v134 v136 v138 v140 v142 v144 v331 k1_hw7 => k1_hw7.2.1
theorem k1_idx57_inb : ∀ (v128 : IVec S16 32) (v130 : IVec S16 32) (v132 : IVec S16 32) (v134 : IVec S16 32) (v136 : IVec S16 32) (v138 : IVec S16 32) (v140 : IVec S16 32) (v142 : IVec S16 32) (v144 : IVec S16 32) (v331 : IVec S16 32) (k1_hw7 : k1_chk7 v128 v130 v132 v134 v136 v138 v140 v142 v144 v331), ∀ a x, ((![v331, v132] : Fin 2 → IVec S16 32) a x).toNat < S32x512.size a := fun v128 v130 v132 v134 v136 v138 v140 v142 v144 v331 k1_hw7 => k1_hw7.2.2.1
theorem k1_idx58_inb : ∀ (v128 : IVec S16 32) (v130 : IVec S16 32) (v132 : IVec S16 32) (v134 : IVec S16 32) (v136 : IVec S16 32) (v138 : IVec S16 32) (v140 : IVec S16 32) (v142 : IVec S16 32) (v144 : IVec S16 32) (v331 : IVec S16 32) (k1_hw7 : k1_chk7 v128 v130 v132 v134 v136 v138 v140 v142 v144 v331), ∀ a x, ((![v331, v134] : Fin 2 → IVec S16 32) a x).toNat < S32x512.size a := fun v128 v130 v132 v134 v136 v138 v140 v142 v144 v331 k1_hw7 => k1_hw7.2.2.2.1
theorem k1_idx59_inb : ∀ (v128 : IVec S16 32) (v130 : IVec S16 32) (v132 : IVec S16 32) (v134 : IVec S16 32) (v136 : IVec S16 32) (v138 : IVec S16 32) (v140 : IVec S16 32) (v142 : IVec S16 32) (v144 : IVec S16 32) (v331 : IVec S16 32) (k1_hw7 : k1_chk7 v128 v130 v132 v134 v136 v138 v140 v142 v144 v331), ∀ a x, ((![v331, v136] : Fin 2 → IVec S16 32) a x).toNat < S32x512.size a := fun v128 v130 v132 v134 v136 v138 v140 v142 v144 v331 k1_hw7 => k1_hw7.2.2.2.2.1
theorem k1_idx60_inb : ∀ (v128 : IVec S16 32) (v130 : IVec S16 32) (v132 : IVec S16 32) (v134 : IVec S16 32) (v136 : IVec S16 32) (v138 : IVec S16 32) (v140 : IVec S16 32) (v142 : IVec S16 32) (v144 : IVec S16 32) (v331 : IVec S16 32) (k1_hw7 : k1_chk7 v128 v130 v132 v134 v136 v138 v140 v142 v144 v331), ∀ a x, ((![v331, v138] : Fin 2 → IVec S16 32) a x).toNat < S32x512.size a := fun v128 v130 v132 v134 v136 v138 v140 v142 v144 v331 k1_hw7 => k1_hw7.2.2.2.2.2.1
theorem k1_idx61_inb : ∀ (v128 : IVec S16 32) (v130 : IVec S16 32) (v132 : IVec S16 32) (v134 : IVec S16 32) (v136 : IVec S16 32) (v138 : IVec S16 32) (v140 : IVec S16 32) (v142 : IVec S16 32) (v144 : IVec S16 32) (v331 : IVec S16 32) (k1_hw7 : k1_chk7 v128 v130 v132 v134 v136 v138 v140 v142 v144 v331), ∀ a x, ((![v331, v140] : Fin 2 → IVec S16 32) a x).toNat < S32x512.size a := fun v128 v130 v132 v134 v136 v138 v140 v142 v144 v331 k1_hw7 => k1_hw7.2.2.2.2.2.2.1
theorem k1_idx62_inb : ∀ (v128 : IVec S16 32) (v130 : IVec S16 32) (v132 : IVec S16 32) (v134 : IVec S16 32) (v136 : IVec S16 32) (v138 : IVec S16 32) (v140 : IVec S16 32) (v142 : IVec S16 32) (v144 : IVec S16 32) (v331 : IVec S16 32) (k1_hw7 : k1_chk7 v128 v130 v132 v134 v136 v138 v140 v142 v144 v331), ∀ a x, ((![v331, v142] : Fin 2 → IVec S16 32) a x).toNat < S32x512.size a := fun v128 v130 v132 v134 v136 v138 v140 v142 v144 v331 k1_hw7 => k1_hw7.2.2.2.2.2.2.2.1
theorem k1_idx63_inb : ∀ (v128 : IVec S16 32) (v130 : IVec S16 32) (v132 : IVec S16 32) (v134 : IVec S16 32) (v136 : IVec S16 32) (v138 : IVec S16 32) (v140 : IVec S16 32) (v142 : IVec S16 32) (v144 : IVec S16 32) (v331 : IVec S16 32) (k1_hw7 : k1_chk7 v128 v130 v132 v134 v136 v138 v140 v142 v144 v331), ∀ a x, ((![v331, v144] : Fin 2 → IVec S16 32) a x).toNat < S32x512.size a := fun v128 v130 v132 v134 v136 v138 v140 v142 v144 v331 k1_hw7 => k1_hw7.2.2.2.2.2.2.2.2
def k1_off8 (k1_t7 : Fin k1_t7_loop.trips) : Fin 2 → Nat :=
  let c0_i32_357 : BitVec 32 := 0#32
  let c0_i32_143 : BitVec 32 := 0#32
  let c1_i32_145 : BitVec 32 := 1#32
  let arg14 : BitVec 32 := Scf.iv c0_i32_143 c1_i32_145 k1_t7
  let c1_i32_356 : BitVec 32 := 1#32
  let v329 : BitVec 32 := Scalar.muli arg14 c1_i32_356
  let v330 : BitVec 32 := Scalar.addi c0_i32_357 v329
  let v349 : Index := Scalar.indexCast v330
  let c96_358 : Index := 96#32
  ![v349.toNat, 96]
@[reducible] def k1_t8_loop : Scf.Loop 32 :=
  let c0_i32_164 : BitVec 32 := 0#32
  let c32_i32_165 : BitVec 32 := 32#32
  let v164 : BitVec 32 := Scalar.addi c0_i32_164 c32_i32_165
  let c1_i32_166 : BitVec 32 := 1#32
  ⟨c0_i32_164, v164, c1_i32_166⟩

def k1_chk8 (v147 : IVec S16 32) (v149 : IVec S16 32) (v151 : IVec S16 32) (v153 : IVec S16 32) (v155 : IVec S16 32) (v157 : IVec S16 32) (v159 : IVec S16 32) (v161 : IVec S16 32) (v163 : IVec S16 32) (v331 : IVec S16 32) : Prop :=
  (∀ a x, ((![v331, v147] : Fin 2 → IVec S16 32) a x).toNat < S32x512.size a) ∧
  (∀ a x, ((![v331, v149] : Fin 2 → IVec S16 32) a x).toNat < S32x512.size a) ∧
  (∀ a x, ((![v331, v151] : Fin 2 → IVec S16 32) a x).toNat < S32x512.size a) ∧
  (∀ a x, ((![v331, v153] : Fin 2 → IVec S16 32) a x).toNat < S32x512.size a) ∧
  (∀ a x, ((![v331, v155] : Fin 2 → IVec S16 32) a x).toNat < S32x512.size a) ∧
  (∀ a x, ((![v331, v157] : Fin 2 → IVec S16 32) a x).toNat < S32x512.size a) ∧
  (∀ a x, ((![v331, v159] : Fin 2 → IVec S16 32) a x).toNat < S32x512.size a) ∧
  (∀ a x, ((![v331, v161] : Fin 2 → IVec S16 32) a x).toNat < S32x512.size a) ∧
  (∀ a x, ((![v331, v163] : Fin 2 → IVec S16 32) a x).toNat < S32x512.size a)
theorem k1_idx64_inb : ∀ (v147 : IVec S16 32) (v149 : IVec S16 32) (v151 : IVec S16 32) (v153 : IVec S16 32) (v155 : IVec S16 32) (v157 : IVec S16 32) (v159 : IVec S16 32) (v161 : IVec S16 32) (v163 : IVec S16 32) (v331 : IVec S16 32) (k1_hw8 : k1_chk8 v147 v149 v151 v153 v155 v157 v159 v161 v163 v331), ∀ a x, ((![v331, v147] : Fin 2 → IVec S16 32) a x).toNat < S32x512.size a := fun v147 v149 v151 v153 v155 v157 v159 v161 v163 v331 k1_hw8 => k1_hw8.1
theorem k1_idx65_inb : ∀ (v147 : IVec S16 32) (v149 : IVec S16 32) (v151 : IVec S16 32) (v153 : IVec S16 32) (v155 : IVec S16 32) (v157 : IVec S16 32) (v159 : IVec S16 32) (v161 : IVec S16 32) (v163 : IVec S16 32) (v331 : IVec S16 32) (k1_hw8 : k1_chk8 v147 v149 v151 v153 v155 v157 v159 v161 v163 v331), ∀ a x, ((![v331, v149] : Fin 2 → IVec S16 32) a x).toNat < S32x512.size a := fun v147 v149 v151 v153 v155 v157 v159 v161 v163 v331 k1_hw8 => k1_hw8.2.1
theorem k1_idx66_inb : ∀ (v147 : IVec S16 32) (v149 : IVec S16 32) (v151 : IVec S16 32) (v153 : IVec S16 32) (v155 : IVec S16 32) (v157 : IVec S16 32) (v159 : IVec S16 32) (v161 : IVec S16 32) (v163 : IVec S16 32) (v331 : IVec S16 32) (k1_hw8 : k1_chk8 v147 v149 v151 v153 v155 v157 v159 v161 v163 v331), ∀ a x, ((![v331, v151] : Fin 2 → IVec S16 32) a x).toNat < S32x512.size a := fun v147 v149 v151 v153 v155 v157 v159 v161 v163 v331 k1_hw8 => k1_hw8.2.2.1
theorem k1_idx67_inb : ∀ (v147 : IVec S16 32) (v149 : IVec S16 32) (v151 : IVec S16 32) (v153 : IVec S16 32) (v155 : IVec S16 32) (v157 : IVec S16 32) (v159 : IVec S16 32) (v161 : IVec S16 32) (v163 : IVec S16 32) (v331 : IVec S16 32) (k1_hw8 : k1_chk8 v147 v149 v151 v153 v155 v157 v159 v161 v163 v331), ∀ a x, ((![v331, v153] : Fin 2 → IVec S16 32) a x).toNat < S32x512.size a := fun v147 v149 v151 v153 v155 v157 v159 v161 v163 v331 k1_hw8 => k1_hw8.2.2.2.1
theorem k1_idx68_inb : ∀ (v147 : IVec S16 32) (v149 : IVec S16 32) (v151 : IVec S16 32) (v153 : IVec S16 32) (v155 : IVec S16 32) (v157 : IVec S16 32) (v159 : IVec S16 32) (v161 : IVec S16 32) (v163 : IVec S16 32) (v331 : IVec S16 32) (k1_hw8 : k1_chk8 v147 v149 v151 v153 v155 v157 v159 v161 v163 v331), ∀ a x, ((![v331, v155] : Fin 2 → IVec S16 32) a x).toNat < S32x512.size a := fun v147 v149 v151 v153 v155 v157 v159 v161 v163 v331 k1_hw8 => k1_hw8.2.2.2.2.1
theorem k1_idx69_inb : ∀ (v147 : IVec S16 32) (v149 : IVec S16 32) (v151 : IVec S16 32) (v153 : IVec S16 32) (v155 : IVec S16 32) (v157 : IVec S16 32) (v159 : IVec S16 32) (v161 : IVec S16 32) (v163 : IVec S16 32) (v331 : IVec S16 32) (k1_hw8 : k1_chk8 v147 v149 v151 v153 v155 v157 v159 v161 v163 v331), ∀ a x, ((![v331, v157] : Fin 2 → IVec S16 32) a x).toNat < S32x512.size a := fun v147 v149 v151 v153 v155 v157 v159 v161 v163 v331 k1_hw8 => k1_hw8.2.2.2.2.2.1
theorem k1_idx70_inb : ∀ (v147 : IVec S16 32) (v149 : IVec S16 32) (v151 : IVec S16 32) (v153 : IVec S16 32) (v155 : IVec S16 32) (v157 : IVec S16 32) (v159 : IVec S16 32) (v161 : IVec S16 32) (v163 : IVec S16 32) (v331 : IVec S16 32) (k1_hw8 : k1_chk8 v147 v149 v151 v153 v155 v157 v159 v161 v163 v331), ∀ a x, ((![v331, v159] : Fin 2 → IVec S16 32) a x).toNat < S32x512.size a := fun v147 v149 v151 v153 v155 v157 v159 v161 v163 v331 k1_hw8 => k1_hw8.2.2.2.2.2.2.1
theorem k1_idx71_inb : ∀ (v147 : IVec S16 32) (v149 : IVec S16 32) (v151 : IVec S16 32) (v153 : IVec S16 32) (v155 : IVec S16 32) (v157 : IVec S16 32) (v159 : IVec S16 32) (v161 : IVec S16 32) (v163 : IVec S16 32) (v331 : IVec S16 32) (k1_hw8 : k1_chk8 v147 v149 v151 v153 v155 v157 v159 v161 v163 v331), ∀ a x, ((![v331, v161] : Fin 2 → IVec S16 32) a x).toNat < S32x512.size a := fun v147 v149 v151 v153 v155 v157 v159 v161 v163 v331 k1_hw8 => k1_hw8.2.2.2.2.2.2.2.1
theorem k1_idx72_inb : ∀ (v147 : IVec S16 32) (v149 : IVec S16 32) (v151 : IVec S16 32) (v153 : IVec S16 32) (v155 : IVec S16 32) (v157 : IVec S16 32) (v159 : IVec S16 32) (v161 : IVec S16 32) (v163 : IVec S16 32) (v331 : IVec S16 32) (k1_hw8 : k1_chk8 v147 v149 v151 v153 v155 v157 v159 v161 v163 v331), ∀ a x, ((![v331, v163] : Fin 2 → IVec S16 32) a x).toNat < S32x512.size a := fun v147 v149 v151 v153 v155 v157 v159 v161 v163 v331 k1_hw8 => k1_hw8.2.2.2.2.2.2.2.2
def k1_off9 (k1_t8 : Fin k1_t8_loop.trips) : Fin 2 → Nat :=
  let c0_i32_357 : BitVec 32 := 0#32
  let c0_i32_164 : BitVec 32 := 0#32
  let c1_i32_166 : BitVec 32 := 1#32
  let arg14 : BitVec 32 := Scf.iv c0_i32_164 c1_i32_166 k1_t8
  let c1_i32_356 : BitVec 32 := 1#32
  let v329 : BitVec 32 := Scalar.muli arg14 c1_i32_356
  let v330 : BitVec 32 := Scalar.addi c0_i32_357 v329
  let v349 : Index := Scalar.indexCast v330
  let c112_358 : Index := 112#32
  ![v349.toNat, 112]
def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v4 : BitVec 32 := Scalar.muli v1 c64_i32_0
  let c0_i32_168 : BitVec 32 := 0#32
  let v165 : BitVec 32 := Scalar.addi v4 c0_i32_168
  let c0_i32_169 : BitVec 32 := 0#32
  ![v165.toNat, 0]
def k1_off11 (i : grid1.Coords) : Fin 2 → Nat :=
  let c6144_i32 : BitVec 32 := 6144#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi c6144_i32 v2
  let c32_i32 : BitVec 32 := 32#32
  let v8 : BitVec 32 := Scalar.addi v3 c32_i32
  let c0_i32_171 : BitVec 32 := 0#32
  ![v8.toNat, 0]
@[reducible] def k1_t9_loop : Scf.Loop 32 :=
  let c0_i32_191 : BitVec 32 := 0#32
  let c32_i32_192 : BitVec 32 := 32#32
  let v188 : BitVec 32 := Scalar.addi c0_i32_191 c32_i32_192
  let c1_i32_193 : BitVec 32 := 1#32
  ⟨c0_i32_191, v188, c1_i32_193⟩

def k1_chk9 (v171 : IVec S16 32) (v173 : IVec S16 32) (v175 : IVec S16 32) (v177 : IVec S16 32) (v179 : IVec S16 32) (v181 : IVec S16 32) (v183 : IVec S16 32) (v185 : IVec S16 32) (v187 : IVec S16 32) (v331 : IVec S16 32) : Prop :=
  (∀ a x, ((![v331, v171] : Fin 2 → IVec S16 32) a x).toNat < S32x512.size a) ∧
  (∀ a x, ((![v331, v173] : Fin 2 → IVec S16 32) a x).toNat < S32x512.size a) ∧
  (∀ a x, ((![v331, v175] : Fin 2 → IVec S16 32) a x).toNat < S32x512.size a) ∧
  (∀ a x, ((![v331, v177] : Fin 2 → IVec S16 32) a x).toNat < S32x512.size a) ∧
  (∀ a x, ((![v331, v179] : Fin 2 → IVec S16 32) a x).toNat < S32x512.size a) ∧
  (∀ a x, ((![v331, v181] : Fin 2 → IVec S16 32) a x).toNat < S32x512.size a) ∧
  (∀ a x, ((![v331, v183] : Fin 2 → IVec S16 32) a x).toNat < S32x512.size a) ∧
  (∀ a x, ((![v331, v185] : Fin 2 → IVec S16 32) a x).toNat < S32x512.size a) ∧
  (∀ a x, ((![v331, v187] : Fin 2 → IVec S16 32) a x).toNat < S32x512.size a)
theorem k1_idx73_inb : ∀ (v171 : IVec S16 32) (v173 : IVec S16 32) (v175 : IVec S16 32) (v177 : IVec S16 32) (v179 : IVec S16 32) (v181 : IVec S16 32) (v183 : IVec S16 32) (v185 : IVec S16 32) (v187 : IVec S16 32) (v331 : IVec S16 32) (k1_hw9 : k1_chk9 v171 v173 v175 v177 v179 v181 v183 v185 v187 v331), ∀ a x, ((![v331, v171] : Fin 2 → IVec S16 32) a x).toNat < S32x512.size a := fun v171 v173 v175 v177 v179 v181 v183 v185 v187 v331 k1_hw9 => k1_hw9.1
theorem k1_idx74_inb : ∀ (v171 : IVec S16 32) (v173 : IVec S16 32) (v175 : IVec S16 32) (v177 : IVec S16 32) (v179 : IVec S16 32) (v181 : IVec S16 32) (v183 : IVec S16 32) (v185 : IVec S16 32) (v187 : IVec S16 32) (v331 : IVec S16 32) (k1_hw9 : k1_chk9 v171 v173 v175 v177 v179 v181 v183 v185 v187 v331), ∀ a x, ((![v331, v173] : Fin 2 → IVec S16 32) a x).toNat < S32x512.size a := fun v171 v173 v175 v177 v179 v181 v183 v185 v187 v331 k1_hw9 => k1_hw9.2.1
theorem k1_idx75_inb : ∀ (v171 : IVec S16 32) (v173 : IVec S16 32) (v175 : IVec S16 32) (v177 : IVec S16 32) (v179 : IVec S16 32) (v181 : IVec S16 32) (v183 : IVec S16 32) (v185 : IVec S16 32) (v187 : IVec S16 32) (v331 : IVec S16 32) (k1_hw9 : k1_chk9 v171 v173 v175 v177 v179 v181 v183 v185 v187 v331), ∀ a x, ((![v331, v175] : Fin 2 → IVec S16 32) a x).toNat < S32x512.size a := fun v171 v173 v175 v177 v179 v181 v183 v185 v187 v331 k1_hw9 => k1_hw9.2.2.1
theorem k1_idx76_inb : ∀ (v171 : IVec S16 32) (v173 : IVec S16 32) (v175 : IVec S16 32) (v177 : IVec S16 32) (v179 : IVec S16 32) (v181 : IVec S16 32) (v183 : IVec S16 32) (v185 : IVec S16 32) (v187 : IVec S16 32) (v331 : IVec S16 32) (k1_hw9 : k1_chk9 v171 v173 v175 v177 v179 v181 v183 v185 v187 v331), ∀ a x, ((![v331, v177] : Fin 2 → IVec S16 32) a x).toNat < S32x512.size a := fun v171 v173 v175 v177 v179 v181 v183 v185 v187 v331 k1_hw9 => k1_hw9.2.2.2.1
theorem k1_idx77_inb : ∀ (v171 : IVec S16 32) (v173 : IVec S16 32) (v175 : IVec S16 32) (v177 : IVec S16 32) (v179 : IVec S16 32) (v181 : IVec S16 32) (v183 : IVec S16 32) (v185 : IVec S16 32) (v187 : IVec S16 32) (v331 : IVec S16 32) (k1_hw9 : k1_chk9 v171 v173 v175 v177 v179 v181 v183 v185 v187 v331), ∀ a x, ((![v331, v179] : Fin 2 → IVec S16 32) a x).toNat < S32x512.size a := fun v171 v173 v175 v177 v179 v181 v183 v185 v187 v331 k1_hw9 => k1_hw9.2.2.2.2.1
theorem k1_idx78_inb : ∀ (v171 : IVec S16 32) (v173 : IVec S16 32) (v175 : IVec S16 32) (v177 : IVec S16 32) (v179 : IVec S16 32) (v181 : IVec S16 32) (v183 : IVec S16 32) (v185 : IVec S16 32) (v187 : IVec S16 32) (v331 : IVec S16 32) (k1_hw9 : k1_chk9 v171 v173 v175 v177 v179 v181 v183 v185 v187 v331), ∀ a x, ((![v331, v181] : Fin 2 → IVec S16 32) a x).toNat < S32x512.size a := fun v171 v173 v175 v177 v179 v181 v183 v185 v187 v331 k1_hw9 => k1_hw9.2.2.2.2.2.1
theorem k1_idx79_inb : ∀ (v171 : IVec S16 32) (v173 : IVec S16 32) (v175 : IVec S16 32) (v177 : IVec S16 32) (v179 : IVec S16 32) (v181 : IVec S16 32) (v183 : IVec S16 32) (v185 : IVec S16 32) (v187 : IVec S16 32) (v331 : IVec S16 32) (k1_hw9 : k1_chk9 v171 v173 v175 v177 v179 v181 v183 v185 v187 v331), ∀ a x, ((![v331, v183] : Fin 2 → IVec S16 32) a x).toNat < S32x512.size a := fun v171 v173 v175 v177 v179 v181 v183 v185 v187 v331 k1_hw9 => k1_hw9.2.2.2.2.2.2.1
theorem k1_idx80_inb : ∀ (v171 : IVec S16 32) (v173 : IVec S16 32) (v175 : IVec S16 32) (v177 : IVec S16 32) (v179 : IVec S16 32) (v181 : IVec S16 32) (v183 : IVec S16 32) (v185 : IVec S16 32) (v187 : IVec S16 32) (v331 : IVec S16 32) (k1_hw9 : k1_chk9 v171 v173 v175 v177 v179 v181 v183 v185 v187 v331), ∀ a x, ((![v331, v185] : Fin 2 → IVec S16 32) a x).toNat < S32x512.size a := fun v171 v173 v175 v177 v179 v181 v183 v185 v187 v331 k1_hw9 => k1_hw9.2.2.2.2.2.2.2.1
theorem k1_idx81_inb : ∀ (v171 : IVec S16 32) (v173 : IVec S16 32) (v175 : IVec S16 32) (v177 : IVec S16 32) (v179 : IVec S16 32) (v181 : IVec S16 32) (v183 : IVec S16 32) (v185 : IVec S16 32) (v187 : IVec S16 32) (v331 : IVec S16 32) (k1_hw9 : k1_chk9 v171 v173 v175 v177 v179 v181 v183 v185 v187 v331), ∀ a x, ((![v331, v187] : Fin 2 → IVec S16 32) a x).toNat < S32x512.size a := fun v171 v173 v175 v177 v179 v181 v183 v185 v187 v331 k1_hw9 => k1_hw9.2.2.2.2.2.2.2.2
def k1_off12 (k1_t9 : Fin k1_t9_loop.trips) : Fin 2 → Nat :=
  let c0_i32_357 : BitVec 32 := 0#32
  let c0_i32_191 : BitVec 32 := 0#32
  let c1_i32_193 : BitVec 32 := 1#32
  let arg14 : BitVec 32 := Scf.iv c0_i32_191 c1_i32_193 k1_t9
  let c1_i32_356 : BitVec 32 := 1#32
  let v329 : BitVec 32 := Scalar.muli arg14 c1_i32_356
  let v330 : BitVec 32 := Scalar.addi c0_i32_357 v329
  let v349 : Index := Scalar.indexCast v330
  let c0_358 : Index := 0#32
  ![v349.toNat, 0]
@[reducible] def k1_t10_loop : Scf.Loop 32 :=
  let c0_i32_213 : BitVec 32 := 0#32
  let c32_i32_214 : BitVec 32 := 32#32
  let v207 : BitVec 32 := Scalar.addi c0_i32_213 c32_i32_214
  let c1_i32_215 : BitVec 32 := 1#32
  ⟨c0_i32_213, v207, c1_i32_215⟩

def k1_chk10 (v190 : IVec S16 32) (v192 : IVec S16 32) (v194 : IVec S16 32) (v196 : IVec S16 32) (v198 : IVec S16 32) (v200 : IVec S16 32) (v202 : IVec S16 32) (v204 : IVec S16 32) (v206 : IVec S16 32) (v331 : IVec S16 32) : Prop :=
  (∀ a x, ((![v331, v190] : Fin 2 → IVec S16 32) a x).toNat < S32x512.size a) ∧
  (∀ a x, ((![v331, v192] : Fin 2 → IVec S16 32) a x).toNat < S32x512.size a) ∧
  (∀ a x, ((![v331, v194] : Fin 2 → IVec S16 32) a x).toNat < S32x512.size a) ∧
  (∀ a x, ((![v331, v196] : Fin 2 → IVec S16 32) a x).toNat < S32x512.size a) ∧
  (∀ a x, ((![v331, v198] : Fin 2 → IVec S16 32) a x).toNat < S32x512.size a) ∧
  (∀ a x, ((![v331, v200] : Fin 2 → IVec S16 32) a x).toNat < S32x512.size a) ∧
  (∀ a x, ((![v331, v202] : Fin 2 → IVec S16 32) a x).toNat < S32x512.size a) ∧
  (∀ a x, ((![v331, v204] : Fin 2 → IVec S16 32) a x).toNat < S32x512.size a) ∧
  (∀ a x, ((![v331, v206] : Fin 2 → IVec S16 32) a x).toNat < S32x512.size a)
theorem k1_idx82_inb : ∀ (v190 : IVec S16 32) (v192 : IVec S16 32) (v194 : IVec S16 32) (v196 : IVec S16 32) (v198 : IVec S16 32) (v200 : IVec S16 32) (v202 : IVec S16 32) (v204 : IVec S16 32) (v206 : IVec S16 32) (v331 : IVec S16 32) (k1_hw10 : k1_chk10 v190 v192 v194 v196 v198 v200 v202 v204 v206 v331), ∀ a x, ((![v331, v190] : Fin 2 → IVec S16 32) a x).toNat < S32x512.size a := fun v190 v192 v194 v196 v198 v200 v202 v204 v206 v331 k1_hw10 => k1_hw10.1
theorem k1_idx83_inb : ∀ (v190 : IVec S16 32) (v192 : IVec S16 32) (v194 : IVec S16 32) (v196 : IVec S16 32) (v198 : IVec S16 32) (v200 : IVec S16 32) (v202 : IVec S16 32) (v204 : IVec S16 32) (v206 : IVec S16 32) (v331 : IVec S16 32) (k1_hw10 : k1_chk10 v190 v192 v194 v196 v198 v200 v202 v204 v206 v331), ∀ a x, ((![v331, v192] : Fin 2 → IVec S16 32) a x).toNat < S32x512.size a := fun v190 v192 v194 v196 v198 v200 v202 v204 v206 v331 k1_hw10 => k1_hw10.2.1
theorem k1_idx84_inb : ∀ (v190 : IVec S16 32) (v192 : IVec S16 32) (v194 : IVec S16 32) (v196 : IVec S16 32) (v198 : IVec S16 32) (v200 : IVec S16 32) (v202 : IVec S16 32) (v204 : IVec S16 32) (v206 : IVec S16 32) (v331 : IVec S16 32) (k1_hw10 : k1_chk10 v190 v192 v194 v196 v198 v200 v202 v204 v206 v331), ∀ a x, ((![v331, v194] : Fin 2 → IVec S16 32) a x).toNat < S32x512.size a := fun v190 v192 v194 v196 v198 v200 v202 v204 v206 v331 k1_hw10 => k1_hw10.2.2.1
theorem k1_idx85_inb : ∀ (v190 : IVec S16 32) (v192 : IVec S16 32) (v194 : IVec S16 32) (v196 : IVec S16 32) (v198 : IVec S16 32) (v200 : IVec S16 32) (v202 : IVec S16 32) (v204 : IVec S16 32) (v206 : IVec S16 32) (v331 : IVec S16 32) (k1_hw10 : k1_chk10 v190 v192 v194 v196 v198 v200 v202 v204 v206 v331), ∀ a x, ((![v331, v196] : Fin 2 → IVec S16 32) a x).toNat < S32x512.size a := fun v190 v192 v194 v196 v198 v200 v202 v204 v206 v331 k1_hw10 => k1_hw10.2.2.2.1
theorem k1_idx86_inb : ∀ (v190 : IVec S16 32) (v192 : IVec S16 32) (v194 : IVec S16 32) (v196 : IVec S16 32) (v198 : IVec S16 32) (v200 : IVec S16 32) (v202 : IVec S16 32) (v204 : IVec S16 32) (v206 : IVec S16 32) (v331 : IVec S16 32) (k1_hw10 : k1_chk10 v190 v192 v194 v196 v198 v200 v202 v204 v206 v331), ∀ a x, ((![v331, v198] : Fin 2 → IVec S16 32) a x).toNat < S32x512.size a := fun v190 v192 v194 v196 v198 v200 v202 v204 v206 v331 k1_hw10 => k1_hw10.2.2.2.2.1
theorem k1_idx87_inb : ∀ (v190 : IVec S16 32) (v192 : IVec S16 32) (v194 : IVec S16 32) (v196 : IVec S16 32) (v198 : IVec S16 32) (v200 : IVec S16 32) (v202 : IVec S16 32) (v204 : IVec S16 32) (v206 : IVec S16 32) (v331 : IVec S16 32) (k1_hw10 : k1_chk10 v190 v192 v194 v196 v198 v200 v202 v204 v206 v331), ∀ a x, ((![v331, v200] : Fin 2 → IVec S16 32) a x).toNat < S32x512.size a := fun v190 v192 v194 v196 v198 v200 v202 v204 v206 v331 k1_hw10 => k1_hw10.2.2.2.2.2.1
theorem k1_idx88_inb : ∀ (v190 : IVec S16 32) (v192 : IVec S16 32) (v194 : IVec S16 32) (v196 : IVec S16 32) (v198 : IVec S16 32) (v200 : IVec S16 32) (v202 : IVec S16 32) (v204 : IVec S16 32) (v206 : IVec S16 32) (v331 : IVec S16 32) (k1_hw10 : k1_chk10 v190 v192 v194 v196 v198 v200 v202 v204 v206 v331), ∀ a x, ((![v331, v202] : Fin 2 → IVec S16 32) a x).toNat < S32x512.size a := fun v190 v192 v194 v196 v198 v200 v202 v204 v206 v331 k1_hw10 => k1_hw10.2.2.2.2.2.2.1
theorem k1_idx89_inb : ∀ (v190 : IVec S16 32) (v192 : IVec S16 32) (v194 : IVec S16 32) (v196 : IVec S16 32) (v198 : IVec S16 32) (v200 : IVec S16 32) (v202 : IVec S16 32) (v204 : IVec S16 32) (v206 : IVec S16 32) (v331 : IVec S16 32) (k1_hw10 : k1_chk10 v190 v192 v194 v196 v198 v200 v202 v204 v206 v331), ∀ a x, ((![v331, v204] : Fin 2 → IVec S16 32) a x).toNat < S32x512.size a := fun v190 v192 v194 v196 v198 v200 v202 v204 v206 v331 k1_hw10 => k1_hw10.2.2.2.2.2.2.2.1
theorem k1_idx90_inb : ∀ (v190 : IVec S16 32) (v192 : IVec S16 32) (v194 : IVec S16 32) (v196 : IVec S16 32) (v198 : IVec S16 32) (v200 : IVec S16 32) (v202 : IVec S16 32) (v204 : IVec S16 32) (v206 : IVec S16 32) (v331 : IVec S16 32) (k1_hw10 : k1_chk10 v190 v192 v194 v196 v198 v200 v202 v204 v206 v331), ∀ a x, ((![v331, v206] : Fin 2 → IVec S16 32) a x).toNat < S32x512.size a := fun v190 v192 v194 v196 v198 v200 v202 v204 v206 v331 k1_hw10 => k1_hw10.2.2.2.2.2.2.2.2
def k1_off13 (k1_t10 : Fin k1_t10_loop.trips) : Fin 2 → Nat :=
  let c0_i32_357 : BitVec 32 := 0#32
  let c0_i32_213 : BitVec 32 := 0#32
  let c1_i32_215 : BitVec 32 := 1#32
  let arg14 : BitVec 32 := Scf.iv c0_i32_213 c1_i32_215 k1_t10
  let c1_i32_356 : BitVec 32 := 1#32
  let v329 : BitVec 32 := Scalar.muli arg14 c1_i32_356
  let v330 : BitVec 32 := Scalar.addi c0_i32_357 v329
  let v349 : Index := Scalar.indexCast v330
  let c16_358 : Index := 16#32
  ![v349.toNat, 16]
@[reducible] def k1_t11_loop : Scf.Loop 32 :=
  let c0_i32_235 : BitVec 32 := 0#32
  let c32_i32_236 : BitVec 32 := 32#32
  let v226 : BitVec 32 := Scalar.addi c0_i32_235 c32_i32_236
  let c1_i32_237 : BitVec 32 := 1#32
  ⟨c0_i32_235, v226, c1_i32_237⟩

def k1_chk11 (v209 : IVec S16 32) (v211 : IVec S16 32) (v213 : IVec S16 32) (v215 : IVec S16 32) (v217 : IVec S16 32) (v219 : IVec S16 32) (v221 : IVec S16 32) (v223 : IVec S16 32) (v225 : IVec S16 32) (v331 : IVec S16 32) : Prop :=
  (∀ a x, ((![v331, v209] : Fin 2 → IVec S16 32) a x).toNat < S32x512.size a) ∧
  (∀ a x, ((![v331, v211] : Fin 2 → IVec S16 32) a x).toNat < S32x512.size a) ∧
  (∀ a x, ((![v331, v213] : Fin 2 → IVec S16 32) a x).toNat < S32x512.size a) ∧
  (∀ a x, ((![v331, v215] : Fin 2 → IVec S16 32) a x).toNat < S32x512.size a) ∧
  (∀ a x, ((![v331, v217] : Fin 2 → IVec S16 32) a x).toNat < S32x512.size a) ∧
  (∀ a x, ((![v331, v219] : Fin 2 → IVec S16 32) a x).toNat < S32x512.size a) ∧
  (∀ a x, ((![v331, v221] : Fin 2 → IVec S16 32) a x).toNat < S32x512.size a) ∧
  (∀ a x, ((![v331, v223] : Fin 2 → IVec S16 32) a x).toNat < S32x512.size a) ∧
  (∀ a x, ((![v331, v225] : Fin 2 → IVec S16 32) a x).toNat < S32x512.size a)
theorem k1_idx91_inb : ∀ (v209 : IVec S16 32) (v211 : IVec S16 32) (v213 : IVec S16 32) (v215 : IVec S16 32) (v217 : IVec S16 32) (v219 : IVec S16 32) (v221 : IVec S16 32) (v223 : IVec S16 32) (v225 : IVec S16 32) (v331 : IVec S16 32) (k1_hw11 : k1_chk11 v209 v211 v213 v215 v217 v219 v221 v223 v225 v331), ∀ a x, ((![v331, v209] : Fin 2 → IVec S16 32) a x).toNat < S32x512.size a := fun v209 v211 v213 v215 v217 v219 v221 v223 v225 v331 k1_hw11 => k1_hw11.1
theorem k1_idx92_inb : ∀ (v209 : IVec S16 32) (v211 : IVec S16 32) (v213 : IVec S16 32) (v215 : IVec S16 32) (v217 : IVec S16 32) (v219 : IVec S16 32) (v221 : IVec S16 32) (v223 : IVec S16 32) (v225 : IVec S16 32) (v331 : IVec S16 32) (k1_hw11 : k1_chk11 v209 v211 v213 v215 v217 v219 v221 v223 v225 v331), ∀ a x, ((![v331, v211] : Fin 2 → IVec S16 32) a x).toNat < S32x512.size a := fun v209 v211 v213 v215 v217 v219 v221 v223 v225 v331 k1_hw11 => k1_hw11.2.1
theorem k1_idx93_inb : ∀ (v209 : IVec S16 32) (v211 : IVec S16 32) (v213 : IVec S16 32) (v215 : IVec S16 32) (v217 : IVec S16 32) (v219 : IVec S16 32) (v221 : IVec S16 32) (v223 : IVec S16 32) (v225 : IVec S16 32) (v331 : IVec S16 32) (k1_hw11 : k1_chk11 v209 v211 v213 v215 v217 v219 v221 v223 v225 v331), ∀ a x, ((![v331, v213] : Fin 2 → IVec S16 32) a x).toNat < S32x512.size a := fun v209 v211 v213 v215 v217 v219 v221 v223 v225 v331 k1_hw11 => k1_hw11.2.2.1
theorem k1_idx94_inb : ∀ (v209 : IVec S16 32) (v211 : IVec S16 32) (v213 : IVec S16 32) (v215 : IVec S16 32) (v217 : IVec S16 32) (v219 : IVec S16 32) (v221 : IVec S16 32) (v223 : IVec S16 32) (v225 : IVec S16 32) (v331 : IVec S16 32) (k1_hw11 : k1_chk11 v209 v211 v213 v215 v217 v219 v221 v223 v225 v331), ∀ a x, ((![v331, v215] : Fin 2 → IVec S16 32) a x).toNat < S32x512.size a := fun v209 v211 v213 v215 v217 v219 v221 v223 v225 v331 k1_hw11 => k1_hw11.2.2.2.1
theorem k1_idx95_inb : ∀ (v209 : IVec S16 32) (v211 : IVec S16 32) (v213 : IVec S16 32) (v215 : IVec S16 32) (v217 : IVec S16 32) (v219 : IVec S16 32) (v221 : IVec S16 32) (v223 : IVec S16 32) (v225 : IVec S16 32) (v331 : IVec S16 32) (k1_hw11 : k1_chk11 v209 v211 v213 v215 v217 v219 v221 v223 v225 v331), ∀ a x, ((![v331, v217] : Fin 2 → IVec S16 32) a x).toNat < S32x512.size a := fun v209 v211 v213 v215 v217 v219 v221 v223 v225 v331 k1_hw11 => k1_hw11.2.2.2.2.1
theorem k1_idx96_inb : ∀ (v209 : IVec S16 32) (v211 : IVec S16 32) (v213 : IVec S16 32) (v215 : IVec S16 32) (v217 : IVec S16 32) (v219 : IVec S16 32) (v221 : IVec S16 32) (v223 : IVec S16 32) (v225 : IVec S16 32) (v331 : IVec S16 32) (k1_hw11 : k1_chk11 v209 v211 v213 v215 v217 v219 v221 v223 v225 v331), ∀ a x, ((![v331, v219] : Fin 2 → IVec S16 32) a x).toNat < S32x512.size a := fun v209 v211 v213 v215 v217 v219 v221 v223 v225 v331 k1_hw11 => k1_hw11.2.2.2.2.2.1
theorem k1_idx97_inb : ∀ (v209 : IVec S16 32) (v211 : IVec S16 32) (v213 : IVec S16 32) (v215 : IVec S16 32) (v217 : IVec S16 32) (v219 : IVec S16 32) (v221 : IVec S16 32) (v223 : IVec S16 32) (v225 : IVec S16 32) (v331 : IVec S16 32) (k1_hw11 : k1_chk11 v209 v211 v213 v215 v217 v219 v221 v223 v225 v331), ∀ a x, ((![v331, v221] : Fin 2 → IVec S16 32) a x).toNat < S32x512.size a := fun v209 v211 v213 v215 v217 v219 v221 v223 v225 v331 k1_hw11 => k1_hw11.2.2.2.2.2.2.1
theorem k1_idx98_inb : ∀ (v209 : IVec S16 32) (v211 : IVec S16 32) (v213 : IVec S16 32) (v215 : IVec S16 32) (v217 : IVec S16 32) (v219 : IVec S16 32) (v221 : IVec S16 32) (v223 : IVec S16 32) (v225 : IVec S16 32) (v331 : IVec S16 32) (k1_hw11 : k1_chk11 v209 v211 v213 v215 v217 v219 v221 v223 v225 v331), ∀ a x, ((![v331, v223] : Fin 2 → IVec S16 32) a x).toNat < S32x512.size a := fun v209 v211 v213 v215 v217 v219 v221 v223 v225 v331 k1_hw11 => k1_hw11.2.2.2.2.2.2.2.1
theorem k1_idx99_inb : ∀ (v209 : IVec S16 32) (v211 : IVec S16 32) (v213 : IVec S16 32) (v215 : IVec S16 32) (v217 : IVec S16 32) (v219 : IVec S16 32) (v221 : IVec S16 32) (v223 : IVec S16 32) (v225 : IVec S16 32) (v331 : IVec S16 32) (k1_hw11 : k1_chk11 v209 v211 v213 v215 v217 v219 v221 v223 v225 v331), ∀ a x, ((![v331, v225] : Fin 2 → IVec S16 32) a x).toNat < S32x512.size a := fun v209 v211 v213 v215 v217 v219 v221 v223 v225 v331 k1_hw11 => k1_hw11.2.2.2.2.2.2.2.2
def k1_off14 (k1_t11 : Fin k1_t11_loop.trips) : Fin 2 → Nat :=
  let c0_i32_357 : BitVec 32 := 0#32
  let c0_i32_235 : BitVec 32 := 0#32
  let c1_i32_237 : BitVec 32 := 1#32
  let arg14 : BitVec 32 := Scf.iv c0_i32_235 c1_i32_237 k1_t11
  let c1_i32_356 : BitVec 32 := 1#32
  let v329 : BitVec 32 := Scalar.muli arg14 c1_i32_356
  let v330 : BitVec 32 := Scalar.addi c0_i32_357 v329
  let v349 : Index := Scalar.indexCast v330
  let c32_358 : Index := 32#32
  ![v349.toNat, 32]
@[reducible] def k1_t12_loop : Scf.Loop 32 :=
  let c0_i32_257 : BitVec 32 := 0#32
  let c32_i32_258 : BitVec 32 := 32#32
  let v245 : BitVec 32 := Scalar.addi c0_i32_257 c32_i32_258
  let c1_i32_259 : BitVec 32 := 1#32
  ⟨c0_i32_257, v245, c1_i32_259⟩

def k1_chk12 (v228 : IVec S16 32) (v230 : IVec S16 32) (v232 : IVec S16 32) (v234 : IVec S16 32) (v236 : IVec S16 32) (v238 : IVec S16 32) (v240 : IVec S16 32) (v242 : IVec S16 32) (v244 : IVec S16 32) (v331 : IVec S16 32) : Prop :=
  (∀ a x, ((![v331, v228] : Fin 2 → IVec S16 32) a x).toNat < S32x512.size a) ∧
  (∀ a x, ((![v331, v230] : Fin 2 → IVec S16 32) a x).toNat < S32x512.size a) ∧
  (∀ a x, ((![v331, v232] : Fin 2 → IVec S16 32) a x).toNat < S32x512.size a) ∧
  (∀ a x, ((![v331, v234] : Fin 2 → IVec S16 32) a x).toNat < S32x512.size a) ∧
  (∀ a x, ((![v331, v236] : Fin 2 → IVec S16 32) a x).toNat < S32x512.size a) ∧
  (∀ a x, ((![v331, v238] : Fin 2 → IVec S16 32) a x).toNat < S32x512.size a) ∧
  (∀ a x, ((![v331, v240] : Fin 2 → IVec S16 32) a x).toNat < S32x512.size a) ∧
  (∀ a x, ((![v331, v242] : Fin 2 → IVec S16 32) a x).toNat < S32x512.size a) ∧
  (∀ a x, ((![v331, v244] : Fin 2 → IVec S16 32) a x).toNat < S32x512.size a)
theorem k1_idx100_inb : ∀ (v228 : IVec S16 32) (v230 : IVec S16 32) (v232 : IVec S16 32) (v234 : IVec S16 32) (v236 : IVec S16 32) (v238 : IVec S16 32) (v240 : IVec S16 32) (v242 : IVec S16 32) (v244 : IVec S16 32) (v331 : IVec S16 32) (k1_hw12 : k1_chk12 v228 v230 v232 v234 v236 v238 v240 v242 v244 v331), ∀ a x, ((![v331, v228] : Fin 2 → IVec S16 32) a x).toNat < S32x512.size a := fun v228 v230 v232 v234 v236 v238 v240 v242 v244 v331 k1_hw12 => k1_hw12.1
theorem k1_idx101_inb : ∀ (v228 : IVec S16 32) (v230 : IVec S16 32) (v232 : IVec S16 32) (v234 : IVec S16 32) (v236 : IVec S16 32) (v238 : IVec S16 32) (v240 : IVec S16 32) (v242 : IVec S16 32) (v244 : IVec S16 32) (v331 : IVec S16 32) (k1_hw12 : k1_chk12 v228 v230 v232 v234 v236 v238 v240 v242 v244 v331), ∀ a x, ((![v331, v230] : Fin 2 → IVec S16 32) a x).toNat < S32x512.size a := fun v228 v230 v232 v234 v236 v238 v240 v242 v244 v331 k1_hw12 => k1_hw12.2.1
theorem k1_idx102_inb : ∀ (v228 : IVec S16 32) (v230 : IVec S16 32) (v232 : IVec S16 32) (v234 : IVec S16 32) (v236 : IVec S16 32) (v238 : IVec S16 32) (v240 : IVec S16 32) (v242 : IVec S16 32) (v244 : IVec S16 32) (v331 : IVec S16 32) (k1_hw12 : k1_chk12 v228 v230 v232 v234 v236 v238 v240 v242 v244 v331), ∀ a x, ((![v331, v232] : Fin 2 → IVec S16 32) a x).toNat < S32x512.size a := fun v228 v230 v232 v234 v236 v238 v240 v242 v244 v331 k1_hw12 => k1_hw12.2.2.1
theorem k1_idx103_inb : ∀ (v228 : IVec S16 32) (v230 : IVec S16 32) (v232 : IVec S16 32) (v234 : IVec S16 32) (v236 : IVec S16 32) (v238 : IVec S16 32) (v240 : IVec S16 32) (v242 : IVec S16 32) (v244 : IVec S16 32) (v331 : IVec S16 32) (k1_hw12 : k1_chk12 v228 v230 v232 v234 v236 v238 v240 v242 v244 v331), ∀ a x, ((![v331, v234] : Fin 2 → IVec S16 32) a x).toNat < S32x512.size a := fun v228 v230 v232 v234 v236 v238 v240 v242 v244 v331 k1_hw12 => k1_hw12.2.2.2.1
theorem k1_idx104_inb : ∀ (v228 : IVec S16 32) (v230 : IVec S16 32) (v232 : IVec S16 32) (v234 : IVec S16 32) (v236 : IVec S16 32) (v238 : IVec S16 32) (v240 : IVec S16 32) (v242 : IVec S16 32) (v244 : IVec S16 32) (v331 : IVec S16 32) (k1_hw12 : k1_chk12 v228 v230 v232 v234 v236 v238 v240 v242 v244 v331), ∀ a x, ((![v331, v236] : Fin 2 → IVec S16 32) a x).toNat < S32x512.size a := fun v228 v230 v232 v234 v236 v238 v240 v242 v244 v331 k1_hw12 => k1_hw12.2.2.2.2.1
theorem k1_idx105_inb : ∀ (v228 : IVec S16 32) (v230 : IVec S16 32) (v232 : IVec S16 32) (v234 : IVec S16 32) (v236 : IVec S16 32) (v238 : IVec S16 32) (v240 : IVec S16 32) (v242 : IVec S16 32) (v244 : IVec S16 32) (v331 : IVec S16 32) (k1_hw12 : k1_chk12 v228 v230 v232 v234 v236 v238 v240 v242 v244 v331), ∀ a x, ((![v331, v238] : Fin 2 → IVec S16 32) a x).toNat < S32x512.size a := fun v228 v230 v232 v234 v236 v238 v240 v242 v244 v331 k1_hw12 => k1_hw12.2.2.2.2.2.1
theorem k1_idx106_inb : ∀ (v228 : IVec S16 32) (v230 : IVec S16 32) (v232 : IVec S16 32) (v234 : IVec S16 32) (v236 : IVec S16 32) (v238 : IVec S16 32) (v240 : IVec S16 32) (v242 : IVec S16 32) (v244 : IVec S16 32) (v331 : IVec S16 32) (k1_hw12 : k1_chk12 v228 v230 v232 v234 v236 v238 v240 v242 v244 v331), ∀ a x, ((![v331, v240] : Fin 2 → IVec S16 32) a x).toNat < S32x512.size a := fun v228 v230 v232 v234 v236 v238 v240 v242 v244 v331 k1_hw12 => k1_hw12.2.2.2.2.2.2.1
theorem k1_idx107_inb : ∀ (v228 : IVec S16 32) (v230 : IVec S16 32) (v232 : IVec S16 32) (v234 : IVec S16 32) (v236 : IVec S16 32) (v238 : IVec S16 32) (v240 : IVec S16 32) (v242 : IVec S16 32) (v244 : IVec S16 32) (v331 : IVec S16 32) (k1_hw12 : k1_chk12 v228 v230 v232 v234 v236 v238 v240 v242 v244 v331), ∀ a x, ((![v331, v242] : Fin 2 → IVec S16 32) a x).toNat < S32x512.size a := fun v228 v230 v232 v234 v236 v238 v240 v242 v244 v331 k1_hw12 => k1_hw12.2.2.2.2.2.2.2.1
theorem k1_idx108_inb : ∀ (v228 : IVec S16 32) (v230 : IVec S16 32) (v232 : IVec S16 32) (v234 : IVec S16 32) (v236 : IVec S16 32) (v238 : IVec S16 32) (v240 : IVec S16 32) (v242 : IVec S16 32) (v244 : IVec S16 32) (v331 : IVec S16 32) (k1_hw12 : k1_chk12 v228 v230 v232 v234 v236 v238 v240 v242 v244 v331), ∀ a x, ((![v331, v244] : Fin 2 → IVec S16 32) a x).toNat < S32x512.size a := fun v228 v230 v232 v234 v236 v238 v240 v242 v244 v331 k1_hw12 => k1_hw12.2.2.2.2.2.2.2.2
def k1_off15 (k1_t12 : Fin k1_t12_loop.trips) : Fin 2 → Nat :=
  let c0_i32_357 : BitVec 32 := 0#32
  let c0_i32_257 : BitVec 32 := 0#32
  let c1_i32_259 : BitVec 32 := 1#32
  let arg14 : BitVec 32 := Scf.iv c0_i32_257 c1_i32_259 k1_t12
  let c1_i32_356 : BitVec 32 := 1#32
  let v329 : BitVec 32 := Scalar.muli arg14 c1_i32_356
  let v330 : BitVec 32 := Scalar.addi c0_i32_357 v329
  let v349 : Index := Scalar.indexCast v330
  let c48_358 : Index := 48#32
  ![v349.toNat, 48]
@[reducible] def k1_t13_loop : Scf.Loop 32 :=
  let c0_i32_279 : BitVec 32 := 0#32
  let c32_i32_280 : BitVec 32 := 32#32
  let v264 : BitVec 32 := Scalar.addi c0_i32_279 c32_i32_280
  let c1_i32_281 : BitVec 32 := 1#32
  ⟨c0_i32_279, v264, c1_i32_281⟩

def k1_chk13 (v247 : IVec S16 32) (v249 : IVec S16 32) (v251 : IVec S16 32) (v253 : IVec S16 32) (v255 : IVec S16 32) (v257 : IVec S16 32) (v259 : IVec S16 32) (v261 : IVec S16 32) (v263 : IVec S16 32) (v331 : IVec S16 32) : Prop :=
  (∀ a x, ((![v331, v247] : Fin 2 → IVec S16 32) a x).toNat < S32x512.size a) ∧
  (∀ a x, ((![v331, v249] : Fin 2 → IVec S16 32) a x).toNat < S32x512.size a) ∧
  (∀ a x, ((![v331, v251] : Fin 2 → IVec S16 32) a x).toNat < S32x512.size a) ∧
  (∀ a x, ((![v331, v253] : Fin 2 → IVec S16 32) a x).toNat < S32x512.size a) ∧
  (∀ a x, ((![v331, v255] : Fin 2 → IVec S16 32) a x).toNat < S32x512.size a) ∧
  (∀ a x, ((![v331, v257] : Fin 2 → IVec S16 32) a x).toNat < S32x512.size a) ∧
  (∀ a x, ((![v331, v259] : Fin 2 → IVec S16 32) a x).toNat < S32x512.size a) ∧
  (∀ a x, ((![v331, v261] : Fin 2 → IVec S16 32) a x).toNat < S32x512.size a) ∧
  (∀ a x, ((![v331, v263] : Fin 2 → IVec S16 32) a x).toNat < S32x512.size a)
theorem k1_idx109_inb : ∀ (v247 : IVec S16 32) (v249 : IVec S16 32) (v251 : IVec S16 32) (v253 : IVec S16 32) (v255 : IVec S16 32) (v257 : IVec S16 32) (v259 : IVec S16 32) (v261 : IVec S16 32) (v263 : IVec S16 32) (v331 : IVec S16 32) (k1_hw13 : k1_chk13 v247 v249 v251 v253 v255 v257 v259 v261 v263 v331), ∀ a x, ((![v331, v247] : Fin 2 → IVec S16 32) a x).toNat < S32x512.size a := fun v247 v249 v251 v253 v255 v257 v259 v261 v263 v331 k1_hw13 => k1_hw13.1
theorem k1_idx110_inb : ∀ (v247 : IVec S16 32) (v249 : IVec S16 32) (v251 : IVec S16 32) (v253 : IVec S16 32) (v255 : IVec S16 32) (v257 : IVec S16 32) (v259 : IVec S16 32) (v261 : IVec S16 32) (v263 : IVec S16 32) (v331 : IVec S16 32) (k1_hw13 : k1_chk13 v247 v249 v251 v253 v255 v257 v259 v261 v263 v331), ∀ a x, ((![v331, v249] : Fin 2 → IVec S16 32) a x).toNat < S32x512.size a := fun v247 v249 v251 v253 v255 v257 v259 v261 v263 v331 k1_hw13 => k1_hw13.2.1
theorem k1_idx111_inb : ∀ (v247 : IVec S16 32) (v249 : IVec S16 32) (v251 : IVec S16 32) (v253 : IVec S16 32) (v255 : IVec S16 32) (v257 : IVec S16 32) (v259 : IVec S16 32) (v261 : IVec S16 32) (v263 : IVec S16 32) (v331 : IVec S16 32) (k1_hw13 : k1_chk13 v247 v249 v251 v253 v255 v257 v259 v261 v263 v331), ∀ a x, ((![v331, v251] : Fin 2 → IVec S16 32) a x).toNat < S32x512.size a := fun v247 v249 v251 v253 v255 v257 v259 v261 v263 v331 k1_hw13 => k1_hw13.2.2.1
theorem k1_idx112_inb : ∀ (v247 : IVec S16 32) (v249 : IVec S16 32) (v251 : IVec S16 32) (v253 : IVec S16 32) (v255 : IVec S16 32) (v257 : IVec S16 32) (v259 : IVec S16 32) (v261 : IVec S16 32) (v263 : IVec S16 32) (v331 : IVec S16 32) (k1_hw13 : k1_chk13 v247 v249 v251 v253 v255 v257 v259 v261 v263 v331), ∀ a x, ((![v331, v253] : Fin 2 → IVec S16 32) a x).toNat < S32x512.size a := fun v247 v249 v251 v253 v255 v257 v259 v261 v263 v331 k1_hw13 => k1_hw13.2.2.2.1
theorem k1_idx113_inb : ∀ (v247 : IVec S16 32) (v249 : IVec S16 32) (v251 : IVec S16 32) (v253 : IVec S16 32) (v255 : IVec S16 32) (v257 : IVec S16 32) (v259 : IVec S16 32) (v261 : IVec S16 32) (v263 : IVec S16 32) (v331 : IVec S16 32) (k1_hw13 : k1_chk13 v247 v249 v251 v253 v255 v257 v259 v261 v263 v331), ∀ a x, ((![v331, v255] : Fin 2 → IVec S16 32) a x).toNat < S32x512.size a := fun v247 v249 v251 v253 v255 v257 v259 v261 v263 v331 k1_hw13 => k1_hw13.2.2.2.2.1
theorem k1_idx114_inb : ∀ (v247 : IVec S16 32) (v249 : IVec S16 32) (v251 : IVec S16 32) (v253 : IVec S16 32) (v255 : IVec S16 32) (v257 : IVec S16 32) (v259 : IVec S16 32) (v261 : IVec S16 32) (v263 : IVec S16 32) (v331 : IVec S16 32) (k1_hw13 : k1_chk13 v247 v249 v251 v253 v255 v257 v259 v261 v263 v331), ∀ a x, ((![v331, v257] : Fin 2 → IVec S16 32) a x).toNat < S32x512.size a := fun v247 v249 v251 v253 v255 v257 v259 v261 v263 v331 k1_hw13 => k1_hw13.2.2.2.2.2.1
theorem k1_idx115_inb : ∀ (v247 : IVec S16 32) (v249 : IVec S16 32) (v251 : IVec S16 32) (v253 : IVec S16 32) (v255 : IVec S16 32) (v257 : IVec S16 32) (v259 : IVec S16 32) (v261 : IVec S16 32) (v263 : IVec S16 32) (v331 : IVec S16 32) (k1_hw13 : k1_chk13 v247 v249 v251 v253 v255 v257 v259 v261 v263 v331), ∀ a x, ((![v331, v259] : Fin 2 → IVec S16 32) a x).toNat < S32x512.size a := fun v247 v249 v251 v253 v255 v257 v259 v261 v263 v331 k1_hw13 => k1_hw13.2.2.2.2.2.2.1
theorem k1_idx116_inb : ∀ (v247 : IVec S16 32) (v249 : IVec S16 32) (v251 : IVec S16 32) (v253 : IVec S16 32) (v255 : IVec S16 32) (v257 : IVec S16 32) (v259 : IVec S16 32) (v261 : IVec S16 32) (v263 : IVec S16 32) (v331 : IVec S16 32) (k1_hw13 : k1_chk13 v247 v249 v251 v253 v255 v257 v259 v261 v263 v331), ∀ a x, ((![v331, v261] : Fin 2 → IVec S16 32) a x).toNat < S32x512.size a := fun v247 v249 v251 v253 v255 v257 v259 v261 v263 v331 k1_hw13 => k1_hw13.2.2.2.2.2.2.2.1
theorem k1_idx117_inb : ∀ (v247 : IVec S16 32) (v249 : IVec S16 32) (v251 : IVec S16 32) (v253 : IVec S16 32) (v255 : IVec S16 32) (v257 : IVec S16 32) (v259 : IVec S16 32) (v261 : IVec S16 32) (v263 : IVec S16 32) (v331 : IVec S16 32) (k1_hw13 : k1_chk13 v247 v249 v251 v253 v255 v257 v259 v261 v263 v331), ∀ a x, ((![v331, v263] : Fin 2 → IVec S16 32) a x).toNat < S32x512.size a := fun v247 v249 v251 v253 v255 v257 v259 v261 v263 v331 k1_hw13 => k1_hw13.2.2.2.2.2.2.2.2
def k1_off16 (k1_t13 : Fin k1_t13_loop.trips) : Fin 2 → Nat :=
  let c0_i32_357 : BitVec 32 := 0#32
  let c0_i32_279 : BitVec 32 := 0#32
  let c1_i32_281 : BitVec 32 := 1#32
  let arg14 : BitVec 32 := Scf.iv c0_i32_279 c1_i32_281 k1_t13
  let c1_i32_356 : BitVec 32 := 1#32
  let v329 : BitVec 32 := Scalar.muli arg14 c1_i32_356
  let v330 : BitVec 32 := Scalar.addi c0_i32_357 v329
  let v349 : Index := Scalar.indexCast v330
  let c64_358 : Index := 64#32
  ![v349.toNat, 64]
@[reducible] def k1_t14_loop : Scf.Loop 32 :=
  let c0_i32_301 : BitVec 32 := 0#32
  let c32_i32_302 : BitVec 32 := 32#32
  let v283 : BitVec 32 := Scalar.addi c0_i32_301 c32_i32_302
  let c1_i32_303 : BitVec 32 := 1#32
  ⟨c0_i32_301, v283, c1_i32_303⟩

def k1_chk14 (v266 : IVec S16 32) (v268 : IVec S16 32) (v270 : IVec S16 32) (v272 : IVec S16 32) (v274 : IVec S16 32) (v276 : IVec S16 32) (v278 : IVec S16 32) (v280 : IVec S16 32) (v282 : IVec S16 32) (v331 : IVec S16 32) : Prop :=
  (∀ a x, ((![v331, v266] : Fin 2 → IVec S16 32) a x).toNat < S32x512.size a) ∧
  (∀ a x, ((![v331, v268] : Fin 2 → IVec S16 32) a x).toNat < S32x512.size a) ∧
  (∀ a x, ((![v331, v270] : Fin 2 → IVec S16 32) a x).toNat < S32x512.size a) ∧
  (∀ a x, ((![v331, v272] : Fin 2 → IVec S16 32) a x).toNat < S32x512.size a) ∧
  (∀ a x, ((![v331, v274] : Fin 2 → IVec S16 32) a x).toNat < S32x512.size a) ∧
  (∀ a x, ((![v331, v276] : Fin 2 → IVec S16 32) a x).toNat < S32x512.size a) ∧
  (∀ a x, ((![v331, v278] : Fin 2 → IVec S16 32) a x).toNat < S32x512.size a) ∧
  (∀ a x, ((![v331, v280] : Fin 2 → IVec S16 32) a x).toNat < S32x512.size a) ∧
  (∀ a x, ((![v331, v282] : Fin 2 → IVec S16 32) a x).toNat < S32x512.size a)
theorem k1_idx118_inb : ∀ (v266 : IVec S16 32) (v268 : IVec S16 32) (v270 : IVec S16 32) (v272 : IVec S16 32) (v274 : IVec S16 32) (v276 : IVec S16 32) (v278 : IVec S16 32) (v280 : IVec S16 32) (v282 : IVec S16 32) (v331 : IVec S16 32) (k1_hw14 : k1_chk14 v266 v268 v270 v272 v274 v276 v278 v280 v282 v331), ∀ a x, ((![v331, v266] : Fin 2 → IVec S16 32) a x).toNat < S32x512.size a := fun v266 v268 v270 v272 v274 v276 v278 v280 v282 v331 k1_hw14 => k1_hw14.1
theorem k1_idx119_inb : ∀ (v266 : IVec S16 32) (v268 : IVec S16 32) (v270 : IVec S16 32) (v272 : IVec S16 32) (v274 : IVec S16 32) (v276 : IVec S16 32) (v278 : IVec S16 32) (v280 : IVec S16 32) (v282 : IVec S16 32) (v331 : IVec S16 32) (k1_hw14 : k1_chk14 v266 v268 v270 v272 v274 v276 v278 v280 v282 v331), ∀ a x, ((![v331, v268] : Fin 2 → IVec S16 32) a x).toNat < S32x512.size a := fun v266 v268 v270 v272 v274 v276 v278 v280 v282 v331 k1_hw14 => k1_hw14.2.1
theorem k1_idx120_inb : ∀ (v266 : IVec S16 32) (v268 : IVec S16 32) (v270 : IVec S16 32) (v272 : IVec S16 32) (v274 : IVec S16 32) (v276 : IVec S16 32) (v278 : IVec S16 32) (v280 : IVec S16 32) (v282 : IVec S16 32) (v331 : IVec S16 32) (k1_hw14 : k1_chk14 v266 v268 v270 v272 v274 v276 v278 v280 v282 v331), ∀ a x, ((![v331, v270] : Fin 2 → IVec S16 32) a x).toNat < S32x512.size a := fun v266 v268 v270 v272 v274 v276 v278 v280 v282 v331 k1_hw14 => k1_hw14.2.2.1
theorem k1_idx121_inb : ∀ (v266 : IVec S16 32) (v268 : IVec S16 32) (v270 : IVec S16 32) (v272 : IVec S16 32) (v274 : IVec S16 32) (v276 : IVec S16 32) (v278 : IVec S16 32) (v280 : IVec S16 32) (v282 : IVec S16 32) (v331 : IVec S16 32) (k1_hw14 : k1_chk14 v266 v268 v270 v272 v274 v276 v278 v280 v282 v331), ∀ a x, ((![v331, v272] : Fin 2 → IVec S16 32) a x).toNat < S32x512.size a := fun v266 v268 v270 v272 v274 v276 v278 v280 v282 v331 k1_hw14 => k1_hw14.2.2.2.1
theorem k1_idx122_inb : ∀ (v266 : IVec S16 32) (v268 : IVec S16 32) (v270 : IVec S16 32) (v272 : IVec S16 32) (v274 : IVec S16 32) (v276 : IVec S16 32) (v278 : IVec S16 32) (v280 : IVec S16 32) (v282 : IVec S16 32) (v331 : IVec S16 32) (k1_hw14 : k1_chk14 v266 v268 v270 v272 v274 v276 v278 v280 v282 v331), ∀ a x, ((![v331, v274] : Fin 2 → IVec S16 32) a x).toNat < S32x512.size a := fun v266 v268 v270 v272 v274 v276 v278 v280 v282 v331 k1_hw14 => k1_hw14.2.2.2.2.1
theorem k1_idx123_inb : ∀ (v266 : IVec S16 32) (v268 : IVec S16 32) (v270 : IVec S16 32) (v272 : IVec S16 32) (v274 : IVec S16 32) (v276 : IVec S16 32) (v278 : IVec S16 32) (v280 : IVec S16 32) (v282 : IVec S16 32) (v331 : IVec S16 32) (k1_hw14 : k1_chk14 v266 v268 v270 v272 v274 v276 v278 v280 v282 v331), ∀ a x, ((![v331, v276] : Fin 2 → IVec S16 32) a x).toNat < S32x512.size a := fun v266 v268 v270 v272 v274 v276 v278 v280 v282 v331 k1_hw14 => k1_hw14.2.2.2.2.2.1
theorem k1_idx124_inb : ∀ (v266 : IVec S16 32) (v268 : IVec S16 32) (v270 : IVec S16 32) (v272 : IVec S16 32) (v274 : IVec S16 32) (v276 : IVec S16 32) (v278 : IVec S16 32) (v280 : IVec S16 32) (v282 : IVec S16 32) (v331 : IVec S16 32) (k1_hw14 : k1_chk14 v266 v268 v270 v272 v274 v276 v278 v280 v282 v331), ∀ a x, ((![v331, v278] : Fin 2 → IVec S16 32) a x).toNat < S32x512.size a := fun v266 v268 v270 v272 v274 v276 v278 v280 v282 v331 k1_hw14 => k1_hw14.2.2.2.2.2.2.1
theorem k1_idx125_inb : ∀ (v266 : IVec S16 32) (v268 : IVec S16 32) (v270 : IVec S16 32) (v272 : IVec S16 32) (v274 : IVec S16 32) (v276 : IVec S16 32) (v278 : IVec S16 32) (v280 : IVec S16 32) (v282 : IVec S16 32) (v331 : IVec S16 32) (k1_hw14 : k1_chk14 v266 v268 v270 v272 v274 v276 v278 v280 v282 v331), ∀ a x, ((![v331, v280] : Fin 2 → IVec S16 32) a x).toNat < S32x512.size a := fun v266 v268 v270 v272 v274 v276 v278 v280 v282 v331 k1_hw14 => k1_hw14.2.2.2.2.2.2.2.1
theorem k1_idx126_inb : ∀ (v266 : IVec S16 32) (v268 : IVec S16 32) (v270 : IVec S16 32) (v272 : IVec S16 32) (v274 : IVec S16 32) (v276 : IVec S16 32) (v278 : IVec S16 32) (v280 : IVec S16 32) (v282 : IVec S16 32) (v331 : IVec S16 32) (k1_hw14 : k1_chk14 v266 v268 v270 v272 v274 v276 v278 v280 v282 v331), ∀ a x, ((![v331, v282] : Fin 2 → IVec S16 32) a x).toNat < S32x512.size a := fun v266 v268 v270 v272 v274 v276 v278 v280 v282 v331 k1_hw14 => k1_hw14.2.2.2.2.2.2.2.2
def k1_off17 (k1_t14 : Fin k1_t14_loop.trips) : Fin 2 → Nat :=
  let c0_i32_357 : BitVec 32 := 0#32
  let c0_i32_301 : BitVec 32 := 0#32
  let c1_i32_303 : BitVec 32 := 1#32
  let arg14 : BitVec 32 := Scf.iv c0_i32_301 c1_i32_303 k1_t14
  let c1_i32_356 : BitVec 32 := 1#32
  let v329 : BitVec 32 := Scalar.muli arg14 c1_i32_356
  let v330 : BitVec 32 := Scalar.addi c0_i32_357 v329
  let v349 : Index := Scalar.indexCast v330
  let c80_358 : Index := 80#32
  ![v349.toNat, 80]
@[reducible] def k1_t15_loop : Scf.Loop 32 :=
  let c0_i32_323 : BitVec 32 := 0#32
  let c32_i32_324 : BitVec 32 := 32#32
  let v302 : BitVec 32 := Scalar.addi c0_i32_323 c32_i32_324
  let c1_i32_325 : BitVec 32 := 1#32
  ⟨c0_i32_323, v302, c1_i32_325⟩

def k1_chk15 (v285 : IVec S16 32) (v287 : IVec S16 32) (v289 : IVec S16 32) (v291 : IVec S16 32) (v293 : IVec S16 32) (v295 : IVec S16 32) (v297 : IVec S16 32) (v299 : IVec S16 32) (v301 : IVec S16 32) (v331 : IVec S16 32) : Prop :=
  (∀ a x, ((![v331, v285] : Fin 2 → IVec S16 32) a x).toNat < S32x512.size a) ∧
  (∀ a x, ((![v331, v287] : Fin 2 → IVec S16 32) a x).toNat < S32x512.size a) ∧
  (∀ a x, ((![v331, v289] : Fin 2 → IVec S16 32) a x).toNat < S32x512.size a) ∧
  (∀ a x, ((![v331, v291] : Fin 2 → IVec S16 32) a x).toNat < S32x512.size a) ∧
  (∀ a x, ((![v331, v293] : Fin 2 → IVec S16 32) a x).toNat < S32x512.size a) ∧
  (∀ a x, ((![v331, v295] : Fin 2 → IVec S16 32) a x).toNat < S32x512.size a) ∧
  (∀ a x, ((![v331, v297] : Fin 2 → IVec S16 32) a x).toNat < S32x512.size a) ∧
  (∀ a x, ((![v331, v299] : Fin 2 → IVec S16 32) a x).toNat < S32x512.size a) ∧
  (∀ a x, ((![v331, v301] : Fin 2 → IVec S16 32) a x).toNat < S32x512.size a)
theorem k1_idx127_inb : ∀ (v285 : IVec S16 32) (v287 : IVec S16 32) (v289 : IVec S16 32) (v291 : IVec S16 32) (v293 : IVec S16 32) (v295 : IVec S16 32) (v297 : IVec S16 32) (v299 : IVec S16 32) (v301 : IVec S16 32) (v331 : IVec S16 32) (k1_hw15 : k1_chk15 v285 v287 v289 v291 v293 v295 v297 v299 v301 v331), ∀ a x, ((![v331, v285] : Fin 2 → IVec S16 32) a x).toNat < S32x512.size a := fun v285 v287 v289 v291 v293 v295 v297 v299 v301 v331 k1_hw15 => k1_hw15.1
theorem k1_idx128_inb : ∀ (v285 : IVec S16 32) (v287 : IVec S16 32) (v289 : IVec S16 32) (v291 : IVec S16 32) (v293 : IVec S16 32) (v295 : IVec S16 32) (v297 : IVec S16 32) (v299 : IVec S16 32) (v301 : IVec S16 32) (v331 : IVec S16 32) (k1_hw15 : k1_chk15 v285 v287 v289 v291 v293 v295 v297 v299 v301 v331), ∀ a x, ((![v331, v287] : Fin 2 → IVec S16 32) a x).toNat < S32x512.size a := fun v285 v287 v289 v291 v293 v295 v297 v299 v301 v331 k1_hw15 => k1_hw15.2.1
theorem k1_idx129_inb : ∀ (v285 : IVec S16 32) (v287 : IVec S16 32) (v289 : IVec S16 32) (v291 : IVec S16 32) (v293 : IVec S16 32) (v295 : IVec S16 32) (v297 : IVec S16 32) (v299 : IVec S16 32) (v301 : IVec S16 32) (v331 : IVec S16 32) (k1_hw15 : k1_chk15 v285 v287 v289 v291 v293 v295 v297 v299 v301 v331), ∀ a x, ((![v331, v289] : Fin 2 → IVec S16 32) a x).toNat < S32x512.size a := fun v285 v287 v289 v291 v293 v295 v297 v299 v301 v331 k1_hw15 => k1_hw15.2.2.1
theorem k1_idx130_inb : ∀ (v285 : IVec S16 32) (v287 : IVec S16 32) (v289 : IVec S16 32) (v291 : IVec S16 32) (v293 : IVec S16 32) (v295 : IVec S16 32) (v297 : IVec S16 32) (v299 : IVec S16 32) (v301 : IVec S16 32) (v331 : IVec S16 32) (k1_hw15 : k1_chk15 v285 v287 v289 v291 v293 v295 v297 v299 v301 v331), ∀ a x, ((![v331, v291] : Fin 2 → IVec S16 32) a x).toNat < S32x512.size a := fun v285 v287 v289 v291 v293 v295 v297 v299 v301 v331 k1_hw15 => k1_hw15.2.2.2.1
theorem k1_idx131_inb : ∀ (v285 : IVec S16 32) (v287 : IVec S16 32) (v289 : IVec S16 32) (v291 : IVec S16 32) (v293 : IVec S16 32) (v295 : IVec S16 32) (v297 : IVec S16 32) (v299 : IVec S16 32) (v301 : IVec S16 32) (v331 : IVec S16 32) (k1_hw15 : k1_chk15 v285 v287 v289 v291 v293 v295 v297 v299 v301 v331), ∀ a x, ((![v331, v293] : Fin 2 → IVec S16 32) a x).toNat < S32x512.size a := fun v285 v287 v289 v291 v293 v295 v297 v299 v301 v331 k1_hw15 => k1_hw15.2.2.2.2.1
theorem k1_idx132_inb : ∀ (v285 : IVec S16 32) (v287 : IVec S16 32) (v289 : IVec S16 32) (v291 : IVec S16 32) (v293 : IVec S16 32) (v295 : IVec S16 32) (v297 : IVec S16 32) (v299 : IVec S16 32) (v301 : IVec S16 32) (v331 : IVec S16 32) (k1_hw15 : k1_chk15 v285 v287 v289 v291 v293 v295 v297 v299 v301 v331), ∀ a x, ((![v331, v295] : Fin 2 → IVec S16 32) a x).toNat < S32x512.size a := fun v285 v287 v289 v291 v293 v295 v297 v299 v301 v331 k1_hw15 => k1_hw15.2.2.2.2.2.1
theorem k1_idx133_inb : ∀ (v285 : IVec S16 32) (v287 : IVec S16 32) (v289 : IVec S16 32) (v291 : IVec S16 32) (v293 : IVec S16 32) (v295 : IVec S16 32) (v297 : IVec S16 32) (v299 : IVec S16 32) (v301 : IVec S16 32) (v331 : IVec S16 32) (k1_hw15 : k1_chk15 v285 v287 v289 v291 v293 v295 v297 v299 v301 v331), ∀ a x, ((![v331, v297] : Fin 2 → IVec S16 32) a x).toNat < S32x512.size a := fun v285 v287 v289 v291 v293 v295 v297 v299 v301 v331 k1_hw15 => k1_hw15.2.2.2.2.2.2.1
theorem k1_idx134_inb : ∀ (v285 : IVec S16 32) (v287 : IVec S16 32) (v289 : IVec S16 32) (v291 : IVec S16 32) (v293 : IVec S16 32) (v295 : IVec S16 32) (v297 : IVec S16 32) (v299 : IVec S16 32) (v301 : IVec S16 32) (v331 : IVec S16 32) (k1_hw15 : k1_chk15 v285 v287 v289 v291 v293 v295 v297 v299 v301 v331), ∀ a x, ((![v331, v299] : Fin 2 → IVec S16 32) a x).toNat < S32x512.size a := fun v285 v287 v289 v291 v293 v295 v297 v299 v301 v331 k1_hw15 => k1_hw15.2.2.2.2.2.2.2.1
theorem k1_idx135_inb : ∀ (v285 : IVec S16 32) (v287 : IVec S16 32) (v289 : IVec S16 32) (v291 : IVec S16 32) (v293 : IVec S16 32) (v295 : IVec S16 32) (v297 : IVec S16 32) (v299 : IVec S16 32) (v301 : IVec S16 32) (v331 : IVec S16 32) (k1_hw15 : k1_chk15 v285 v287 v289 v291 v293 v295 v297 v299 v301 v331), ∀ a x, ((![v331, v301] : Fin 2 → IVec S16 32) a x).toNat < S32x512.size a := fun v285 v287 v289 v291 v293 v295 v297 v299 v301 v331 k1_hw15 => k1_hw15.2.2.2.2.2.2.2.2
def k1_off18 (k1_t15 : Fin k1_t15_loop.trips) : Fin 2 → Nat :=
  let c0_i32_357 : BitVec 32 := 0#32
  let c0_i32_323 : BitVec 32 := 0#32
  let c1_i32_325 : BitVec 32 := 1#32
  let arg14 : BitVec 32 := Scf.iv c0_i32_323 c1_i32_325 k1_t15
  let c1_i32_356 : BitVec 32 := 1#32
  let v329 : BitVec 32 := Scalar.muli arg14 c1_i32_356
  let v330 : BitVec 32 := Scalar.addi c0_i32_357 v329
  let v349 : Index := Scalar.indexCast v330
  let c96_358 : Index := 96#32
  ![v349.toNat, 96]
@[reducible] def k1_t16_loop : Scf.Loop 32 :=
  let c0_i32_345 : BitVec 32 := 0#32
  let c32_i32_346 : BitVec 32 := 32#32
  let v321 : BitVec 32 := Scalar.addi c0_i32_345 c32_i32_346
  let c1_i32_347 : BitVec 32 := 1#32
  ⟨c0_i32_345, v321, c1_i32_347⟩

def k1_chk16 (v304 : IVec S16 32) (v306 : IVec S16 32) (v308 : IVec S16 32) (v310 : IVec S16 32) (v312 : IVec S16 32) (v314 : IVec S16 32) (v316 : IVec S16 32) (v318 : IVec S16 32) (v320 : IVec S16 32) (v331 : IVec S16 32) : Prop :=
  (∀ a x, ((![v331, v304] : Fin 2 → IVec S16 32) a x).toNat < S32x512.size a) ∧
  (∀ a x, ((![v331, v306] : Fin 2 → IVec S16 32) a x).toNat < S32x512.size a) ∧
  (∀ a x, ((![v331, v308] : Fin 2 → IVec S16 32) a x).toNat < S32x512.size a) ∧
  (∀ a x, ((![v331, v310] : Fin 2 → IVec S16 32) a x).toNat < S32x512.size a) ∧
  (∀ a x, ((![v331, v312] : Fin 2 → IVec S16 32) a x).toNat < S32x512.size a) ∧
  (∀ a x, ((![v331, v314] : Fin 2 → IVec S16 32) a x).toNat < S32x512.size a) ∧
  (∀ a x, ((![v331, v316] : Fin 2 → IVec S16 32) a x).toNat < S32x512.size a) ∧
  (∀ a x, ((![v331, v318] : Fin 2 → IVec S16 32) a x).toNat < S32x512.size a) ∧
  (∀ a x, ((![v331, v320] : Fin 2 → IVec S16 32) a x).toNat < S32x512.size a)
theorem k1_idx136_inb : ∀ (v304 : IVec S16 32) (v306 : IVec S16 32) (v308 : IVec S16 32) (v310 : IVec S16 32) (v312 : IVec S16 32) (v314 : IVec S16 32) (v316 : IVec S16 32) (v318 : IVec S16 32) (v320 : IVec S16 32) (v331 : IVec S16 32) (k1_hw16 : k1_chk16 v304 v306 v308 v310 v312 v314 v316 v318 v320 v331), ∀ a x, ((![v331, v304] : Fin 2 → IVec S16 32) a x).toNat < S32x512.size a := fun v304 v306 v308 v310 v312 v314 v316 v318 v320 v331 k1_hw16 => k1_hw16.1
theorem k1_idx137_inb : ∀ (v304 : IVec S16 32) (v306 : IVec S16 32) (v308 : IVec S16 32) (v310 : IVec S16 32) (v312 : IVec S16 32) (v314 : IVec S16 32) (v316 : IVec S16 32) (v318 : IVec S16 32) (v320 : IVec S16 32) (v331 : IVec S16 32) (k1_hw16 : k1_chk16 v304 v306 v308 v310 v312 v314 v316 v318 v320 v331), ∀ a x, ((![v331, v306] : Fin 2 → IVec S16 32) a x).toNat < S32x512.size a := fun v304 v306 v308 v310 v312 v314 v316 v318 v320 v331 k1_hw16 => k1_hw16.2.1
theorem k1_idx138_inb : ∀ (v304 : IVec S16 32) (v306 : IVec S16 32) (v308 : IVec S16 32) (v310 : IVec S16 32) (v312 : IVec S16 32) (v314 : IVec S16 32) (v316 : IVec S16 32) (v318 : IVec S16 32) (v320 : IVec S16 32) (v331 : IVec S16 32) (k1_hw16 : k1_chk16 v304 v306 v308 v310 v312 v314 v316 v318 v320 v331), ∀ a x, ((![v331, v308] : Fin 2 → IVec S16 32) a x).toNat < S32x512.size a := fun v304 v306 v308 v310 v312 v314 v316 v318 v320 v331 k1_hw16 => k1_hw16.2.2.1
theorem k1_idx139_inb : ∀ (v304 : IVec S16 32) (v306 : IVec S16 32) (v308 : IVec S16 32) (v310 : IVec S16 32) (v312 : IVec S16 32) (v314 : IVec S16 32) (v316 : IVec S16 32) (v318 : IVec S16 32) (v320 : IVec S16 32) (v331 : IVec S16 32) (k1_hw16 : k1_chk16 v304 v306 v308 v310 v312 v314 v316 v318 v320 v331), ∀ a x, ((![v331, v310] : Fin 2 → IVec S16 32) a x).toNat < S32x512.size a := fun v304 v306 v308 v310 v312 v314 v316 v318 v320 v331 k1_hw16 => k1_hw16.2.2.2.1
theorem k1_idx140_inb : ∀ (v304 : IVec S16 32) (v306 : IVec S16 32) (v308 : IVec S16 32) (v310 : IVec S16 32) (v312 : IVec S16 32) (v314 : IVec S16 32) (v316 : IVec S16 32) (v318 : IVec S16 32) (v320 : IVec S16 32) (v331 : IVec S16 32) (k1_hw16 : k1_chk16 v304 v306 v308 v310 v312 v314 v316 v318 v320 v331), ∀ a x, ((![v331, v312] : Fin 2 → IVec S16 32) a x).toNat < S32x512.size a := fun v304 v306 v308 v310 v312 v314 v316 v318 v320 v331 k1_hw16 => k1_hw16.2.2.2.2.1
theorem k1_idx141_inb : ∀ (v304 : IVec S16 32) (v306 : IVec S16 32) (v308 : IVec S16 32) (v310 : IVec S16 32) (v312 : IVec S16 32) (v314 : IVec S16 32) (v316 : IVec S16 32) (v318 : IVec S16 32) (v320 : IVec S16 32) (v331 : IVec S16 32) (k1_hw16 : k1_chk16 v304 v306 v308 v310 v312 v314 v316 v318 v320 v331), ∀ a x, ((![v331, v314] : Fin 2 → IVec S16 32) a x).toNat < S32x512.size a := fun v304 v306 v308 v310 v312 v314 v316 v318 v320 v331 k1_hw16 => k1_hw16.2.2.2.2.2.1
theorem k1_idx142_inb : ∀ (v304 : IVec S16 32) (v306 : IVec S16 32) (v308 : IVec S16 32) (v310 : IVec S16 32) (v312 : IVec S16 32) (v314 : IVec S16 32) (v316 : IVec S16 32) (v318 : IVec S16 32) (v320 : IVec S16 32) (v331 : IVec S16 32) (k1_hw16 : k1_chk16 v304 v306 v308 v310 v312 v314 v316 v318 v320 v331), ∀ a x, ((![v331, v316] : Fin 2 → IVec S16 32) a x).toNat < S32x512.size a := fun v304 v306 v308 v310 v312 v314 v316 v318 v320 v331 k1_hw16 => k1_hw16.2.2.2.2.2.2.1
theorem k1_idx143_inb : ∀ (v304 : IVec S16 32) (v306 : IVec S16 32) (v308 : IVec S16 32) (v310 : IVec S16 32) (v312 : IVec S16 32) (v314 : IVec S16 32) (v316 : IVec S16 32) (v318 : IVec S16 32) (v320 : IVec S16 32) (v331 : IVec S16 32) (k1_hw16 : k1_chk16 v304 v306 v308 v310 v312 v314 v316 v318 v320 v331), ∀ a x, ((![v331, v318] : Fin 2 → IVec S16 32) a x).toNat < S32x512.size a := fun v304 v306 v308 v310 v312 v314 v316 v318 v320 v331 k1_hw16 => k1_hw16.2.2.2.2.2.2.2.1
theorem k1_idx144_inb : ∀ (v304 : IVec S16 32) (v306 : IVec S16 32) (v308 : IVec S16 32) (v310 : IVec S16 32) (v312 : IVec S16 32) (v314 : IVec S16 32) (v316 : IVec S16 32) (v318 : IVec S16 32) (v320 : IVec S16 32) (v331 : IVec S16 32) (k1_hw16 : k1_chk16 v304 v306 v308 v310 v312 v314 v316 v318 v320 v331), ∀ a x, ((![v331, v320] : Fin 2 → IVec S16 32) a x).toNat < S32x512.size a := fun v304 v306 v308 v310 v312 v314 v316 v318 v320 v331 k1_hw16 => k1_hw16.2.2.2.2.2.2.2.2
def k1_off19 (k1_t16 : Fin k1_t16_loop.trips) : Fin 2 → Nat :=
  let c0_i32_357 : BitVec 32 := 0#32
  let c0_i32_345 : BitVec 32 := 0#32
  let c1_i32_347 : BitVec 32 := 1#32
  let arg14 : BitVec 32 := Scf.iv c0_i32_345 c1_i32_347 k1_t16
  let c1_i32_356 : BitVec 32 := 1#32
  let v329 : BitVec 32 := Scalar.muli arg14 c1_i32_356
  let v330 : BitVec 32 := Scalar.addi c0_i32_357 v329
  let v349 : Index := Scalar.indexCast v330
  let c112_358 : Index := 112#32
  ![v349.toNat, 112]
def k1_off20 (i : grid1.Coords) (c32_i32_349 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v4 : BitVec 32 := Scalar.muli v1 c64_i32_0
  let v322 : BitVec 32 := Scalar.addi v4 c32_i32_349
  let c0_i32_350 : BitVec 32 := 0#32
  ![v322.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x256x512 : Shape := ⟨3, ![32, 256, 512]⟩
abbrev S512x9 : Shape := ⟨2, ![512, 9]⟩
abbrev S256 : Shape := ⟨1, ![256]⟩
abbrev S_ : Shape := ⟨0, ![]⟩
abbrev S512x9x1 : Shape := ⟨3, ![512, 9, 1]⟩
abbrev S1 : Shape := ⟨1, ![1]⟩
abbrev S1x1x1 : Shape := ⟨3, ![1, 1, 1]⟩
abbrev S32x256x512x9 : Shape := ⟨4, ![32, 256, 512, 9]⟩
abbrev S256x1 : Shape := ⟨2, ![256, 1]⟩
abbrev S1x1 : Shape := ⟨2, ![1, 1]⟩
abbrev S32x256x256 : Shape := ⟨3, ![32, 256, 256]⟩
abbrev S32x256x32x8 : Shape := ⟨4, ![32, 256, 32, 8]⟩
abbrev S32x256x32x4 : Shape := ⟨4, ![32, 256, 32, 4]⟩
abbrev S32x256x128 : Shape := ⟨3, ![32, 256, 128]⟩

abbrev nBuf : Space → Nat
  | .hbm => 54
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S512x9, .i32⟩
  | .hbm, ⟨2, _⟩ => ⟨S256, .i32⟩
  | .hbm, ⟨3, _⟩ => ⟨S_, .i32⟩
  | .hbm, ⟨4, _⟩ => ⟨S512x9, .i32⟩
  | .hbm, ⟨5, _⟩ => ⟨S512x9, .i1⟩
  | .hbm, ⟨6, _⟩ => ⟨S_, .i32⟩
  | .hbm, ⟨7, _⟩ => ⟨S512x9, .i32⟩
  | .hbm, ⟨8, _⟩ => ⟨S512x9, .i32⟩
  | .hbm, ⟨9, _⟩ => ⟨S512x9, .i32⟩
  | .hbm, ⟨10, _⟩ => ⟨S512x9x1, .i32⟩
  | .hbm, ⟨11, _⟩ => ⟨S1, .i32⟩
  | .hbm, ⟨12, _⟩ => ⟨S_, .i32⟩
  | .hbm, ⟨13, _⟩ => ⟨S512x9x1, .i32⟩
  | .hbm, ⟨14, _⟩ => ⟨S512x9x1, .i1⟩
  | .hbm, ⟨15, _⟩ => ⟨S1x1x1, .i32⟩
  | .hbm, ⟨16, _⟩ => ⟨S512x9x1, .i32⟩
  | .hbm, ⟨17, _⟩ => ⟨S512x9x1, .i1⟩
  | .hbm, ⟨18, _⟩ => ⟨S512x9x1, .i1⟩
  | .hbm, ⟨19, _⟩ => ⟨S_, .i1⟩
  | .hbm, ⟨20, _⟩ => ⟨S512x9, .i1⟩
  | .hbm, ⟨21, _⟩ => ⟨S32x256x512x9, .f32⟩
  | .hbm, ⟨22, _⟩ => ⟨S32x256x512x9, .i1⟩
  | .hbm, ⟨23, _⟩ => ⟨S_, .f32⟩
  | .hbm, ⟨24, _⟩ => ⟨S32x256x512x9, .f32⟩
  | .hbm, ⟨25, _⟩ => ⟨S32x256x512x9, .f32⟩
  | .hbm, ⟨26, _⟩ => ⟨S_, .f32⟩
  | .hbm, ⟨27, _⟩ => ⟨S32x256x512, .f32⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S256x1, .i32⟩
  | .hbm, ⟨36, _⟩ => ⟨S1, .i32⟩
  | .hbm, ⟨37, _⟩ => ⟨S_, .i32⟩
  | .hbm, ⟨38, _⟩ => ⟨S256x1, .i32⟩
  | .hbm, ⟨39, _⟩ => ⟨S256x1, .i1⟩
  | .hbm, ⟨40, _⟩ => ⟨S1x1, .i32⟩
  | .hbm, ⟨41, _⟩ => ⟨S256x1, .i32⟩
  | .hbm, ⟨42, _⟩ => ⟨S256x1, .i1⟩
  | .hbm, ⟨43, _⟩ => ⟨S256x1, .i1⟩
  | .hbm, ⟨44, _⟩ => ⟨S_, .i1⟩
  | .hbm, ⟨45, _⟩ => ⟨S256, .i1⟩
  | .hbm, ⟨46, _⟩ => ⟨S32x256x256, .f32⟩
  | .hbm, ⟨47, _⟩ => ⟨S32x256x256, .i1⟩
  | .hbm, ⟨48, _⟩ => ⟨S_, .f32⟩
  | .hbm, ⟨49, _⟩ => ⟨S32x256x256, .f32⟩
  | .hbm, ⟨50, _⟩ => ⟨S32x256x256, .f32⟩
  | .hbm, ⟨51, _⟩ => ⟨S32x256x32x8, .f32⟩
  | .hbm, ⟨52, _⟩ => ⟨S32x256x32x4, .f32⟩
  | .hbm, ⟨53, _⟩ => ⟨S32x256x128, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩

abbrev nD : Nat := 1
abbrev τ : Topo := Topo.v7x

variable {F : FTy → Type} [FloatOps F]
-- ==== Proof.Shape.lean ====
/-
  The vector-subcore kernel `cc1_k`, put back into the shape its source has: a row trip (`trip`), a block of sixteen
  output columns (`block`: nine index loads, then thirty-two trips), a tile (`tile`: eight blocks), and the task
  (`task`: copies in, a tile, copies, a tile, copies out). The printed kernel unrolls the two tiles and the eight
  blocks of each; `cc1_k_eq_task` says the two are the same program, so everything after it speaks of one trip and
  one block only.
-/
module

public import proofs.«01_k».proof.Defs
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic Idealize.SL.Sem

variable {F : FTy → Type} [FloatOps F]

/-- A program of the vector subcore that the grid point `i` names. -/
abbrev Task (F : FTy → Type) [FloatOps F] (i : grid1.Coords) (α : Type) : Type _ :=
  Prog (TpuEff nD τ sig (Elt F) Λ₀ (.scVector ((i 0).castLE hcore1) ((i 1).castLE hsub1))) α

/-- The row a trip works on, as the word the kernel computes. -/
abbrev rowWord (k : Fin k1_t1_loop.trips) : BitVec 32 := Scalar.addi 0#32 (Scalar.muli (Scf.iv 0#32 1#32 k) 1#32)

/-- Where trip `k` of column block `c` writes its sixteen results. -/
def resOff (c : Fin 8) (k : Fin k1_t1_loop.trips) : Fin 2 → Nat := ![(Scalar.indexCast (rowWord k)).toNat, 16 * c.val]

theorem trips_eq : k1_t1_loop.trips = 32 := by decide

theorem trip_lt (k : Fin k1_t1_loop.trips) : k.val < 32 := Nat.lt_of_lt_of_eq k.isLt trips_eq

theorem rowWord_toNat (k : Fin k1_t1_loop.trips) : (rowWord k).toNat = k.val := by
  have hk := trip_lt k
  simp [rowWord, Scalar.addi, Scalar.muli, Scf.iv, IntOp.addi, IntOp.muli]
  omega

theorem resOff_eq (c : Fin 8) (k : Fin k1_t1_loop.trips) : resOff c k = ![k.val, 16 * c.val] := by
  show ![(rowWord k).toNat, _] = _
  rw [rowWord_toNat]

theorem resOff_inb (c : Fin 8) (k : Fin k1_t1_loop.trips) : ∀ a, resOff c k a + S1x16.size a ≤ S32x128.size a := by
  have hk := trip_lt k
  have hc := c.isLt
  rw [resOff_eq]
  intro a; fin_cases a <;> simp <;> omega

theorem idxOff_inb (j : Fin 9) (c : Fin 8) : ∀ a, (![j.val, 16 * c.val] : Fin 2 → Nat) a + S1x16.size a ≤ S9x128.size a := by
  have hj := j.isLt
  have hc := c.isLt
  intro a; fin_cases a <;> simp <;> omega

/-- One trip: gather row `k`'s nine neighbours for sixteen output columns, take their maximum, store it. -/
def trip (i : grid1.Coords) (src : Memref sig .scVector .vmem S32x512 .f32) (dst : Memref sig .scVector .vmem S32x128 .f32)
    (c : Fin 8) (w0 w1 w2 w3 w4 w5 w6 w7 w8 : IVec S16 32) (k : Fin k1_t1_loop.trips) (_ : Unit) : Task F i Unit := do
  have r : IVec S16 32 := broadcast S16 (rowWord k)
  have hw : k1_chk1 w0 w1 w2 w3 w4 w5 w6 w7 w8 r :=
    (← Prog.lift (TpuEff.assume (k1_chk1 w0 w1 w2 w3 w4 w5 w6 w7 w8 r) (k1_chk1.dec w0 w1 w2 w3 w4 w5 w6 w7 w8 r))).down
  let g0 : Vec F S16 .f32 ← SparseCore.vectorLoadIdx src ![r, w0] (k1_idx1_inb w0 w1 w2 w3 w4 w5 w6 w7 w8 r hw) (View.loads_vmem h_S32x512)
  let g1 : Vec F S16 .f32 ← SparseCore.vectorLoadIdx src ![r, w1] (k1_idx2_inb w0 w1 w2 w3 w4 w5 w6 w7 w8 r hw) (View.loads_vmem h_S32x512)
  let g2 : Vec F S16 .f32 ← SparseCore.vectorLoadIdx src ![r, w2] (k1_idx3_inb w0 w1 w2 w3 w4 w5 w6 w7 w8 r hw) (View.loads_vmem h_S32x512)
  let g3 : Vec F S16 .f32 ← SparseCore.vectorLoadIdx src ![r, w3] (k1_idx4_inb w0 w1 w2 w3 w4 w5 w6 w7 w8 r hw) (View.loads_vmem h_S32x512)
  let g4 : Vec F S16 .f32 ← SparseCore.vectorLoadIdx src ![r, w4] (k1_idx5_inb w0 w1 w2 w3 w4 w5 w6 w7 w8 r hw) (View.loads_vmem h_S32x512)
  let g5 : Vec F S16 .f32 ← SparseCore.vectorLoadIdx src ![r, w5] (k1_idx6_inb w0 w1 w2 w3 w4 w5 w6 w7 w8 r hw) (View.loads_vmem h_S32x512)
  let g6 : Vec F S16 .f32 ← SparseCore.vectorLoadIdx src ![r, w6] (k1_idx7_inb w0 w1 w2 w3 w4 w5 w6 w7 w8 r hw) (View.loads_vmem h_S32x512)
  let g7 : Vec F S16 .f32 ← SparseCore.vectorLoadIdx src ![r, w7] (k1_idx8_inb w0 w1 w2 w3 w4 w5 w6 w7 w8 r hw) (View.loads_vmem h_S32x512)
  let g8 : Vec F S16 .f32 ← SparseCore.vectorLoadIdx src ![r, w8] (k1_idx9_inb w0 w1 w2 w3 w4 w5 w6 w7 w8 r hw) (View.loads_vmem h_S32x512)
  let _old : Vec F S1x16 .f32 ← Prog.lift (.load dst (Rect.unit (s := S32x128) (resOff c k) S1x16.size (resOff_inb c k)).toLoadRect (View.loadsAt_vmem h_S1x16))
  Prog.lift (.store dst (Rect.unit (s := S32x128) (resOff c k) S1x16.size (resOff_inb c k)) (shapeCast S1x16 (k1_pay7 g0 g1 g2 g3 g4 g5 g6 g7 g8) shapeCasts_S16_S1x16) Finset.univ (View.stores_vmem_bits_univ h_S1x16 rfl) (.inl rfl))
  pure ⟨⟩

/-- Sixteen entries of neighbour row `j`, for column block `c`. -/
def loadIdx16 (i : grid1.Coords) (nb : Memref sig .scVector .vmem S9x128 .i32) (j : Fin 9) (c : Fin 8) : Task F i (Vec F S1x16 .i32) :=
  Prog.lift (.load nb (Rect.unit (s := S9x128) ![j.val, 16 * c.val] S1x16.size (idxOff_inb j c)).toLoadRect (View.loadsAt_vmem h_S1x16))

/-- The loaded sixteen entries as a vector of words. -/
abbrev words (v : Vec F S1x16 .i32) : IVec S16 32 := shapeCast S16 v shapeCasts_S1x16_S16

/-- One block of sixteen output columns: its nine index vectors, then a trip for each row. -/
def block (i : grid1.Coords) (nb : Memref sig .scVector .vmem S9x128 .i32) (src : Memref sig .scVector .vmem S32x512 .f32)
    (dst : Memref sig .scVector .vmem S32x128 .f32) (c : Fin 8) : Task F i Unit := do
  let a0 ← loadIdx16 i nb 0 c
  let a1 ← loadIdx16 i nb 1 c
  let a2 ← loadIdx16 i nb 2 c
  let a3 ← loadIdx16 i nb 3 c
  let a4 ← loadIdx16 i nb 4 c
  let a5 ← loadIdx16 i nb 5 c
  let a6 ← loadIdx16 i nb 6 c
  let a7 ← loadIdx16 i nb 7 c
  let a8 ← loadIdx16 i nb 8 c
  Scf.Loop.for k1_t1_loop k1_t1_ok ⟨⟩ (trip i src dst c (words a0) (words a1) (words a2) (words a3) (words a4) (words a5) (words a6) (words a7) (words a8))

/-- A tile: thirty-two rows of all eight column blocks. -/
def tile (i : grid1.Coords) (nb : Memref sig .scVector .vmem S9x128 .i32) (src : Memref sig .scVector .vmem S32x512 .f32)
    (dst : Memref sig .scVector .vmem S32x128 .f32) : Task F i Unit := do
  block i nb src dst 0
  block i nb src dst 1
  block i nb src dst 2
  block i nb src dst 3
  block i nb src dst 4
  block i nb src dst 5
  block i nb src dst 6
  block i nb src dst 7

/-- The thirty-two rows of `x` that tile `r` of the task reads. -/
abbrev inRows (i : grid1.Coords) (x : Memref sig .scVector .hbm S8192x512 .f32) (r : Fin 2) : Memref sig .scVector .hbm S32x512 .f32 :=
  x.slice (Rect.unit (s := S8192x512) (k1_off1 i (BitVec.ofNat 32 (32 * r.val))) S32x512.size (k1_off1_inb i r)) (fun _ => rfl)

/-- The thirty-two rows of the result that tile `r` of the task writes. -/
abbrev outRows (i : grid1.Coords) (o : Memref sig .scVector .hbm S2048x128 .f32) (r : Fin 2) : Memref sig .scVector .hbm S32x128 .f32 :=
  o.slice (Rect.unit (s := S2048x128) (k1_off20 i (BitVec.ofNat 32 (32 * r.val))) S32x128.size (k1_off20_inb i r)) (fun _ => rfl)

/-- The task: fetch the neighbour table and both input tiles, pool each tile, write each out. -/
def task (i : grid1.Coords) (x : Memref sig .scVector .hbm S8192x512 .f32) (hx : x.IsWhole)
    (nt : Memref sig .scVector .hbm S9x128 .i32) (hnt : nt.IsWhole) (o : Memref sig .scVector .hbm S2048x128 .f32) (ho : o.IsWhole)
    (x0 : Memref sig .scVector .vmem S32x512 .f32) (hx0 : x0.IsWhole) (x1 : Memref sig .scVector .vmem S32x512 .f32) (hx1 : x1.IsWhole)
    (o0 : Memref sig .scVector .vmem S32x128 .f32) (ho0 : o0.IsWhole) (o1 : Memref sig .scVector .vmem S32x128 .f32) (ho1 : o1.IsWhole)
    (nb : Memref sig .scVector .vmem S9x128 .i32) (hnb : nb.IsWhole) (si0 si1 so0 so1 sn : DmaSems sig S_) : Task F i Unit := do
  Prog.lift (.enqueueDma nt (.here nb) (.dma sn.sem) hnt.wordExact hnb.wordExact ⟨Or.inl rfl, trivial⟩)
  Prog.lift (.waitDma2 sn.sem nt nb hnt.wordExact hnb.wordExact)
  Prog.lift (.enqueueDma (inRows i x 0) (.here x0) (.dma si0.sem) (View.wordExact_bits rfl) hx0.wordExact ⟨Or.inl rfl, trivial⟩)
  Prog.lift (.enqueueDma (inRows i x 1) (.here x1) (.dma si1.sem) (View.wordExact_bits rfl) hx1.wordExact ⟨Or.inl rfl, trivial⟩)
  Prog.lift (.waitDma2 si0.sem (inRows i x 0) x0 (View.wordExact_bits rfl) hx0.wordExact)
  tile i nb x0 o0
  Prog.lift (.enqueueDma o0 (.here (outRows i o 0)) (.dma so0.sem) ho0.wordExact (View.wordExact_bits rfl) ⟨Or.inl rfl, trivial⟩)
  Prog.lift (.waitDma2 si1.sem (inRows i x 1) x1 (View.wordExact_bits rfl) hx1.wordExact)
  tile i nb x1 o1
  Prog.lift (.enqueueDma o1 (.here (outRows i o 1)) (.dma so1.sem) ho1.wordExact (View.wordExact_bits rfl) ⟨Or.inl rfl, trivial⟩)
  Prog.lift (.waitDma2 so0.sem o0 (outRows i o 0) ho0.wordExact (View.wordExact_bits rfl))
  Prog.lift (.waitDma2 so1.sem o1 (outRows i o 1) ho1.wordExact (View.wordExact_bits rfl))
  pure ⟨⟩

set_option maxRecDepth 65536 in
set_option maxHeartbeats 4000000 in
/-- The printed kernel is the task: its parts chained, its loops' bodies the trip at their columns. -/
theorem cc1_k_eq_task (i : grid1.Coords) (x : Memref sig .scVector .hbm S8192x512 .f32) (hx : x.IsWhole)
    (nt : Memref sig .scVector .hbm S9x128 .i32) (hnt : nt.IsWhole) (o : Memref sig .scVector .hbm S2048x128 .f32) (ho : o.IsWhole)
    (x0 : Memref sig .scVector .vmem S32x512 .f32) (hx0 : x0.IsWhole) (x1 : Memref sig .scVector .vmem S32x512 .f32) (hx1 : x1.IsWhole)
    (o0 : Memref sig .scVector .vmem S32x128 .f32) (ho0 : o0.IsWhole) (o1 : Memref sig .scVector .vmem S32x128 .f32) (ho1 : o1.IsWhole)
    (nb : Memref sig .scVector .vmem S9x128 .i32) (hnb : nb.IsWhole) (si0 si1 so0 so1 sn : DmaSems sig S_) :
    cc1_k (F := F) i x hx nt hnt o ho x0 hx0 x1 hx1 o0 ho0 o1 ho1 nb hnb si0 si1 so0 so1 sn
      = task i x hx nt hnt o ho x0 hx0 x1 hx1 o0 ho0 o1 ho1 nb hnb si0 si1 so0 so1 sn := by
  rw [cc1_k_eq_skeleton]
  simp only [cc1_k_skel, k1_part1_eq_skeleton, k1_part2_eq_skeleton, k1_part3_eq_skeleton, k1_part4_eq_skeleton,
    k1_part5_eq_skeleton, k1_part6_eq_skeleton, k1_part7_eq_skeleton, k1_part8_eq_skeleton, k1_part9_eq_skeleton,
    k1_part10_eq_skeleton, k1_part11_eq_skeleton, k1_part12_eq_skeleton, k1_part13_eq_skeleton, k1_part14_eq_skeleton,
    k1_part1_skel, k1_part2_skel, k1_part3_skel, k1_part4_skel, k1_part5_skel, k1_part6_skel, k1_part7_skel,
    k1_part8_skel, k1_part9_skel, k1_part10_skel, k1_part11_skel, k1_part12_skel, k1_part13_skel, k1_part14_skel,
    bind_assoc, pure_bind, task, tile, block]
  rfl

end Cert.Proof.Pool

end
-- ==== Proof.Setup.lean ====
/-
  What every later module speaks over: the program as the launch theorem sees it, the resource algebra (the launch
  handshakes' rounds, the TensorCore pipeline's rounds, the transfers' counters), and the two notions the proof states
  contents with — `Holds` (a memref's buffer reads a given array) and `best` (one pooled element: the maximum of nine
  neighbours of a row).
-/
module

public import proofs.«01_k».proof.Proof.Shape
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Writes
public import Idealize.ShloMosaic.Lib.ValueIdx
public import Idealize.ShloMosaic.Lib.ValueLayout
public import Idealize.ShloMosaic.Lib.Transfers

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores and buffers are used as the launch theorem needs. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The assertions of this proof. -/
abbrev 𝕄 (F : FTy → Type) : Type := MT nD τ sig (HIx 1) (Elt F) ℕ UU ℕ

/-- The handshakes' rounds: the left factor. -/
abbrev EH : Emb UH (𝕄 F) := embL
/-- The pipeline's rounds: the left factor of the right one. -/
def EP : Emb UP (𝕄 F) := (Emb.inl : Emb UP (UP × Counters)).trans embR

instance EP_landsIn : (EP : Emb UP (𝕄 F)).LandsIn (upEmb : UEmb _ (𝕄 F)) := by unfold EP; infer_instance

/-! ## Contents -/

/-- The buffer under memref `b` of thread `thr` is held outright, and read through `b` it is `X`. -/
def Holds {sp : Space} {s : Shape} {e : EltTy} (thr : Thread nD τ) (b : Memref sig thr.2.kind sp s e) (X : s.Idx → Elt F e) : sProp (𝕄 F) :=
  iprop(∃ g, ⌜b.view.read (Elt F) g = X⌝ ∗ b.view.loc thr ↦[b.view.set]{fullShare} g)

/-- The maximum of nine, in the order the kernel takes it. -/
def max9 (g : Fin 9 → F .f32) : F .f32 :=
  FloatOps.maximumf (FloatOps.maximumf (FloatOps.maximumf (FloatOps.maximumf (FloatOps.maximumf (FloatOps.maximumf
    (FloatOps.maximumf (FloatOps.maximumf (g 0) (g 1)) (g 2)) (g 3)) (g 4)) (g 5)) (g 6)) (g 7)) (g 8)

/-- The element neighbour table `nb` names for neighbour `j` of output column `o` (reduced into a row's range, which a
    table in range does not notice). -/
def nbr (nb : S9x128.Idx → BitVec 32) (j : Fin 9) (o : Fin 128) : Fin 512 :=
  ⟨(nb (ix2 j o)).toNat % 512, Nat.mod_lt _ (by decide)⟩

/-- One pooled element: row `r` of `x` (of `n` rows), output column `o`. -/
def best {n : Nat} (x : (⟨2, ![n, 512]⟩ : Shape).Idx → F .f32) (nb : S9x128.Idx → BitVec 32) (r : Fin n) (o : Fin 128) : F .f32 :=
  max9 fun j => x (ix2 r (nbr nb j o))

/-- A neighbour table names only elements of a row. -/
def InRange (nb : S9x128.Idx → BitVec 32) : Prop := ∀ y, (nb y).toNat < 512

theorem nbr_val {nb : S9x128.Idx → BitVec 32} (h : InRange nb) (j : Fin 9) (o : Fin 128) : (nbr nb j o).val = (nb (ix2 j o)).toNat :=
  Nat.mod_eq_of_lt (h _)

end Cert.Proof.Pool

end
-- ==== Proof.Trip.lean ====
/-
  One trip, one block, one tile: run on any vector subcore from a row buffer, a result buffer and a neighbour table in
  range, the tile leaves `best` of every row and column in the result buffer.
-/
module

public import proofs.«01_k».proof.Proof.Setup

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Memory operations over `Holds` -/

section Ops

variable (d : Dev nD) (L : grid1.Coords)

abbrev cV : Fin τ.nSC := (L 0).castLE hcore1
abbrev jV : Fin τ.nSub := (L 1).castLE hsub1
/-- The vector subcore at grid point `L`, on device `d`. -/
abbrev thrV : Thread nD τ := V d (cV L) (jV L)

variable {d L}

/-- A buffer read through its whole rectangle is the buffer read. -/
theorem read_access_all {sp : Space} {s : Shape} {e : EltTy} {κ : Kind} (b : Memref sig κ sp s e) (g : b.view.ty.Contents (Elt F)) :
    ((b.access (.whole s)).read (Elt F) g : s.Idx → Elt F e) = b.view.read (Elt F) g := by
  funext y
  show b.view.read (Elt F) g ((Rect.whole s).emb y) = _
  congr 1
  funext a
  apply Fin.ext
  simp

/-- A gather from a held buffer continues at the gathered elements of what the buffer reads. -/
theorem wp_gather {b : Memref sig .scVector .vmem S32x512 .f32} {x : S32x512.Idx → F .f32} {idxs : Fin 2 → IVec S16 32}
    {h : ∀ a y, (idxs a y).toNat < S32x512.size a} {hl : b.view.Loads} {α : Type} {k : Vec F S16 .f32 → Task F L α} {Q : α → sProp (𝕄 F)} :
    Holds (thrV d L) b x ⊢ iprop((Holds (thrV d L) b x -∗ wp frame (wpE (defs₀ (F := F)) 𝒱₀ (thrV d L) none) Set.univ (k (loadIdx x idxs h)) Q)
      -∗ wp frame (wpE (defs₀ (F := F)) 𝒱₀ (thrV d L) none) Set.univ (SparseCore.vectorLoadIdx b idxs h hl >>= k) Q) := by
  unfold Holds
  iintro ⟨%g, %hg, H⟩ Hk
  iapply (SparseCore.wp_vectorLoadIdx 𝒱₀ (thrV d L) none Set.univ (base := b) (h := h) (S := b.view.set) (q := fullShare) (f := g) (View.set_slice_subset _ _)) $$ H
  iintro H
  rw [show ((b.access (.whole _)).read (Elt F) g : S32x512.Idx → Elt F .f32) = x from hg ▸ read_access_all b g]
  iapply Hk
  iexists g
  isplitr
  · ipureintro; exact hg
  · iexact H

/-- A load of a rectangle of a held buffer continues at what the buffer reads there. -/
theorem wp_read {s : Shape} {e : EltTy} {b : Memref sig .scVector .vmem s e} {X : s.Idx → Elt F e} {r : Rect s} {hl : b.view.LoadsAt r.toLoadRect}
    {α : Type} {k : (r.shape.Idx → Elt F e) → Task F L α} {Q : α → sProp (𝕄 F)} :
    Holds (thrV d L) b X ⊢ iprop((Holds (thrV d L) b X -∗ wp frame (wpE (defs₀ (F := F)) 𝒱₀ (thrV d L) none) Set.univ (k fun y => X (r.emb y)) Q)
      -∗ wp frame (wpE (defs₀ (F := F)) 𝒱₀ (thrV d L) none) Set.univ (.op (.load b r.toLoadRect hl) k) Q) := by
  unfold Holds
  iintro ⟨%g, %hg, H⟩ Hk
  iapply (wp_load_rect 𝒱₀ (thrV d L) none Set.univ (m := b) (r := r) (S := b.view.set) (q := fullShare) (f := g) (View.set_slice_subset _ _)) $$ H
  iintro H
  rw [show ((b.access r).read (Elt F) g : r.shape.Idx → Elt F e) = fun y => X (r.emb y) from hg ▸ rfl]
  iapply Hk
  iexists g
  isplitr
  · ipureintro; exact hg
  · iexact H

/-- A store through a rectangle of a held buffer: afterwards the buffer reads any array `Y` that is the stored vector on
    the rectangle and the old contents off it. -/
theorem wp_write {s : Shape} {e : EltTy} {b : Memref sig .scVector .vmem s e} {X Y : s.Idx → Elt F e} {r : Rect s} {w : r.shape.Idx → Elt F e}
    {hx : (b.access r).Stores Finset.univ} {hm : Finset.univ = Finset.univ ∨ ∀ a, r.stride a = 1}
    (hon : ∀ y, Y (r.emb y) = w y) (hoff : ∀ y, y ∉ r.set → Y y = X y)
    {α : Type} {k : PUnit → Task F L α} {Q : α → sProp (𝕄 F)} :
    Holds (thrV d L) b X ⊢ iprop((Holds (thrV d L) b Y -∗ wp frame (wpE (defs₀ (F := F)) 𝒱₀ (thrV d L) none) Set.univ (k ⟨⟩) Q)
      -∗ wp frame (wpE (defs₀ (F := F)) 𝒱₀ (thrV d L) none) Set.univ (.op (.store b r w Finset.univ hx hm) k) Q) := by
  unfold Holds
  iintro ⟨%g, %hg, H⟩ Hk
  iapply (wp_store_writes₀ 𝒱₀ (thrV d L) none Set.univ (m := b) (r := r) (w := w) (S := b.view.set) (f := g) (View.set_slice_subset _ _)) $$ H
  iintro H
  iapply Hk
  iexists _
  isplitr
  rotate_left
  · iexact H
  · ipureintro
    funext y
    by_cases hy : y ∈ r.set
    · obtain ⟨x, rfl⟩ := r.exists_idx_of_mem hy
      rw [show r.idx x = r.emb x from rfl, View.read_writes_cons_emb, hon]
    · rw [View.read_writes_apply_of_forall_not_mem _ _ _ _ (by simpa using hy), hoff y hy, ← hg]

end Ops

/-! ## A trip -/

/-- Output column `l` of column block `c`. -/
abbrev col (c : Fin 8) (l : Fin 16) : Fin 128 := ⟨16 * c.val + l.val, by omega⟩

/-- The result buffer after `c` column blocks and `k` rows of the next, over prior contents `Y`. -/
def upTo (x : S32x512.Idx → F .f32) (nb : S9x128.Idx → BitVec 32) (Y : S32x128.Idx → F .f32) (c k : Nat) : S32x128.Idx → F .f32 :=
  fun y => if (y 1).val < 16 * c ∨ ((y 1).val < 16 * c + 16 ∧ (y 0).val < k) then best x nb (y 0) (y 1) else Y y

/-- The index vectors of column block `c` are the table's rows there. -/
def Reads (nb : S9x128.Idx → BitVec 32) (c : Fin 8) (w : Fin 9 → IVec S16 32) : Prop := ∀ j l, w j (ix1 l) = nb (ix2 j (col c l))

theorem chk_of_reads {nb : S9x128.Idx → BitVec 32} (hnb : InRange nb) {c : Fin 8} {w : Fin 9 → IVec S16 32} (hw : Reads nb c w)
    (k : Fin k1_t1_loop.trips) (j : Fin 9) :
    ∀ a y, ((![broadcast S16 (rowWord k), w j] : Fin 2 → IVec S16 32) a y).toNat < S32x512.size a := by
  intro a y
  fin_cases a
  · show (rowWord k).toNat < 32
    rw [rowWord_toNat]; exact trip_lt k
  · show (w j y).toNat < 512
    obtain ⟨l, rfl⟩ : ∃ l : Fin 16, y = ix1 l := ⟨y 0, eq_ix1 y⟩
    rw [hw]; exact hnb _

theorem loadIdx_reads {nb : S9x128.Idx → BitVec 32} (hnb : InRange nb) {c : Fin 8} {w : Fin 9 → IVec S16 32} (hw : Reads nb c w)
    (x : S32x512.Idx → F .f32) (k : Fin k1_t1_loop.trips) (j : Fin 9)
    (h : ∀ a y, ((![broadcast S16 (rowWord k), w j] : Fin 2 → IVec S16 32) a y).toNat < S32x512.size a) (l : Fin 16) :
    loadIdx (F := F) (e := .f32) x ![broadcast S16 (rowWord k), w j] h (ix1 l) = x (ix2 ⟨k.val, trip_lt k⟩ (nbr nb j (col c l))) := by
  show x (idxAt _ h _) = _
  congr 1
  rw [eq_ix2 (idxAt _ h _)]
  congr 1
  · exact Fin.ext (rowWord_toNat k)
  · apply Fin.ext
    rw [nbr_val hnb, ← hw]; rfl

section Run

variable {d : Dev nD} {L : grid1.Coords}

/-- One trip advances the result buffer by its row of the block. -/
theorem wp_trip {src : Memref sig .scVector .vmem S32x512 .f32} {dst : Memref sig .scVector .vmem S32x128 .f32} {c : Fin 8}
    {w : Fin 9 → IVec S16 32} {nb : S9x128.Idx → BitVec 32} (hnb : InRange nb) (hw : Reads nb c w) (x : S32x512.Idx → F .f32)
    (Y : S32x128.Idx → F .f32) (k : Fin k1_t1_loop.trips) (u : Unit) :
    iprop(Holds (thrV d L) src x ∗ Holds (thrV d L) dst (upTo x nb Y c.val k.val))
      ⊢ wp frame (wpE (defs₀ (F := F)) 𝒱₀ (thrV d L) none) Set.univ
          (trip L src dst c (w 0) (w 1) (w 2) (w 3) (w 4) (w 5) (w 6) (w 7) (w 8) k u)
          fun _ => iprop(Holds (thrV d L) src x ∗ Holds (thrV d L) dst (upTo x nb Y c.val (k.val + 1))) := by
  have hc := chk_of_reads hnb hw k
  have hchk : k1_chk1 (w 0) (w 1) (w 2) (w 3) (w 4) (w 5) (w 6) (w 7) (w 8) (broadcast S16 (rowWord k)) :=
    ⟨hc 0, hc 1, hc 2, hc 3, hc 4, hc 5, hc 6, hc 7, hc 8⟩
  unfold trip
  simp only [Prog.lift, Prog.bind_op, Prog.bind_ret, Prog.pure_eq_ret]
  rw [wp_assume_of _ _ _ _ hchk]
  iintro ⟨Hs, Hd⟩
  iapply wp_gather $$ Hs; iintro Hs
  iapply wp_gather $$ Hs; iintro Hs
  iapply wp_gather $$ Hs; iintro Hs
  iapply wp_gather $$ Hs; iintro Hs
  iapply wp_gather $$ Hs; iintro Hs
  iapply wp_gather $$ Hs; iintro Hs
  iapply wp_gather $$ Hs; iintro Hs
  iapply wp_gather $$ Hs; iintro Hs
  iapply wp_gather $$ Hs; iintro Hs
  iapply wp_read $$ Hd; iintro Hd
  iapply (wp_write (Y := upTo x nb Y c.val (k.val + 1)) ?hon ?hoff) $$ Hd
  case hon =>
    intro y
    obtain ⟨u, l, rfl⟩ : ∃ (u : Fin 1) (l : Fin 16), y = ix2 u l := ⟨y 0, y 1, eq_ix2 y⟩
    have hemb : (Rect.unit (s := S32x128) (resOff c k) S1x16.size (resOff_inb c k)).emb (ix2 u l) = (ix2 ⟨k.val, trip_lt k⟩ (col c l) : S32x128.Idx) := by
      funext a
      apply Fin.ext
      have hu : u.val = 0 := by omega
      fin_cases a <;> simp [resOff_eq, Rect.emb_apply, hu]
    rw [hemb, shapeCast_a_1a_apply]
    refine (if_pos (.inr ⟨?_, ?_⟩)).trans ?_
    · show best x nb ⟨k.val, trip_lt k⟩ (col c l) = max9 fun j => loadIdx (F := F) (e := .f32) x ![broadcast S16 (rowWord k), w j] (hc j) (ix1 l)
      unfold best
      congr 1
      funext j
      rw [loadIdx_reads hnb hw]
    · show 16 * c.val + l.val < 16 * c.val + 16
      omega
    · show k.val < k.val + 1
      omega
  case hoff =>
    intro y hy
    obtain ⟨r, o, rfl⟩ : ∃ (r : Fin 32) (o : Fin 128), y = ix2 r o := ⟨y 0, y 1, eq_ix2 y⟩
    have hn : ¬ (r.val = k.val ∧ 16 * c.val ≤ o.val ∧ o.val < 16 * c.val + 16) := fun hh => hy (by
      rw [Rect.mem_set_unit, resOff_eq]
      intro a
      fin_cases a
      · show k.val ≤ r.val ∧ r.val < k.val + 1
        omega
      · exact hh.2)
    show (if o.val < 16 * c.val ∨ (o.val < 16 * c.val + 16 ∧ r.val < k.val + 1) then best x nb r o else Y (ix2 r o))
      = if o.val < 16 * c.val ∨ (o.val < 16 * c.val + 16 ∧ r.val < k.val) then best x nb r o else Y (ix2 r o)
    congr 1
    apply propext
    omega
  iintro Hd
  rw [wp_ret]; imodintro
  isplitl [Hs] <;> iassumption

/-- A load of sixteen table entries continues at them. -/
theorem wp_loadIdx16 {tb : Memref sig .scVector .vmem S9x128 .i32} {nb : S9x128.Idx → BitVec 32} {j : Fin 9} {c : Fin 8} {α : Type}
    {k : Vec F S1x16 .i32 → Task F L α} {Q : α → sProp (𝕄 F)} :
    Holds (F := F) (e := .i32) (thrV d L) tb nb
      ⊢ iprop((∀ v : Vec F S1x16 .i32, ⌜∀ l, words v (ix1 l) = nb (ix2 j (col c l))⌝ -∗ Holds (F := F) (e := .i32) (thrV d L) tb nb
          -∗ wp frame (wpE (defs₀ (F := F)) 𝒱₀ (thrV d L) none) Set.univ (k v) Q)
        -∗ wp frame (wpE (defs₀ (F := F)) 𝒱₀ (thrV d L) none) Set.univ (loadIdx16 L tb j c >>= k) Q) := by
  unfold loadIdx16
  simp only [Prog.lift, Prog.bind_op, Prog.bind_ret]
  iintro H Hk
  iapply wp_read $$ H; iintro H
  iapply Hk $$ %_ [] H
  ipureintro
  intro l
  unfold words
  rw [shapeCast_1a_a_apply]
  congr 1
  funext a
  apply Fin.ext
  fin_cases a <;> simp [Rect.emb_apply]

/-- One column block advances the result buffer by sixteen columns. -/
theorem wp_block {tb : Memref sig .scVector .vmem S9x128 .i32} {src : Memref sig .scVector .vmem S32x512 .f32}
    {dst : Memref sig .scVector .vmem S32x128 .f32} {c : Fin 8} {nb : S9x128.Idx → BitVec 32} (hnb : InRange nb)
    (x : S32x512.Idx → F .f32) (Y : S32x128.Idx → F .f32) :
    iprop(Holds (F := F) (e := .i32) (thrV d L) tb nb ∗ Holds (thrV d L) src x ∗ Holds (thrV d L) dst (upTo x nb Y c.val 0))
      ⊢ wp frame (wpE (defs₀ (F := F)) 𝒱₀ (thrV d L) none) Set.univ (block L tb src dst c)
          fun _ => iprop(Holds (F := F) (e := .i32) (thrV d L) tb nb ∗ Holds (thrV d L) src x ∗ Holds (thrV d L) dst (upTo x nb Y (c.val + 1) 0)) := by
  unfold block
  iintro ⟨Ht, Hs, Hd⟩
  iapply wp_loadIdx16 $$ Ht; iintro %a0 %h0 Ht
  iapply wp_loadIdx16 $$ Ht; iintro %a1 %h1 Ht
  iapply wp_loadIdx16 $$ Ht; iintro %a2 %h2 Ht
  iapply wp_loadIdx16 $$ Ht; iintro %a3 %h3 Ht
  iapply wp_loadIdx16 $$ Ht; iintro %a4 %h4 Ht
  iapply wp_loadIdx16 $$ Ht; iintro %a5 %h5 Ht
  iapply wp_loadIdx16 $$ Ht; iintro %a6 %h6 Ht
  iapply wp_loadIdx16 $$ Ht; iintro %a7 %h7 Ht
  iapply wp_loadIdx16 $$ Ht; iintro %a8 %h8 Ht
  have hw : Reads nb c ![words a0, words a1, words a2, words a3, words a4, words a5, words a6, words a7, words a8] := by
    intro j l
    fin_cases j
    · exact h0 l
    · exact h1 l
    · exact h2 l
    · exact h3 l
    · exact h4 l
    · exact h5 l
    · exact h6 l
    · exact h7 l
    · exact h8 l
  iapply (Scf.wp_for frame (wpE (defs₀ (F := F)) 𝒱₀ (thrV d L) none) Set.univ _ _ _ k1_t1_ok ()
    (trip L src dst c (words a0) (words a1) (words a2) (words a3) (words a4) (words a5) (words a6) (words a7) (words a8))
    (fun k _ => iprop(Holds (thrV d L) src x ∗ Holds (thrV d L) dst (upTo x nb Y c.val k)))
    (fun k u => wp_trip hnb hw x Y k u))
  isplitl [Hs Hd]
  · isplitl [Hs] <;> iassumption
  iintro %_ ⟨Hs, Hd⟩
  isplitl [Ht]; · iexact Ht
  isplitl [Hs]; · iexact Hs
  have hend : upTo x nb Y (c.val + 1) 0 = upTo x nb Y c.val k1_t1_loop.trips := by
    funext y
    obtain ⟨r, o, rfl⟩ : ∃ (r : Fin 32) (o : Fin 128), y = ix2 r o := ⟨y 0, y 1, eq_ix2 y⟩
    show (if o.val < 16 * (c.val + 1) ∨ (o.val < 16 * (c.val + 1) + 16 ∧ r.val < 0) then best x nb r o else Y (ix2 r o))
      = if o.val < 16 * c.val ∨ (o.val < 16 * c.val + 16 ∧ r.val < k1_t1_loop.trips) then best x nb r o else Y (ix2 r o)
    rw [trips_eq]
    congr 1
    apply propext
    omega
  rw [hend]
  iexact Hd

/-- A tile: the result buffer holds `best` of every row and column of the row buffer. -/
theorem wp_tile {tb : Memref sig .scVector .vmem S9x128 .i32} {src : Memref sig .scVector .vmem S32x512 .f32}
    {dst : Memref sig .scVector .vmem S32x128 .f32} {nb : S9x128.Idx → BitVec 32} (hnb : InRange nb)
    (x : S32x512.Idx → F .f32) (Y : S32x128.Idx → F .f32) :
    iprop(Holds (F := F) (e := .i32) (thrV d L) tb nb ∗ Holds (thrV d L) src x ∗ Holds (thrV d L) dst Y)
      ⊢ wp frame (wpE (defs₀ (F := F)) 𝒱₀ (thrV d L) none) Set.univ (tile L tb src dst)
          fun _ => iprop(Holds (F := F) (e := .i32) (thrV d L) tb nb ∗ Holds (thrV d L) src x
            ∗ Holds (thrV d L) dst fun y => best x nb (y 0) (y 1)) := by
  have h0 : upTo x nb Y 0 0 = Y := by
    funext y
    exact if_neg (by omega)
  have h8 : upTo x nb Y 8 0 = fun y => best x nb (y 0) (y 1) := by
    funext y
    exact if_pos (.inl (idx2_lt1 y))
  unfold tile
  simp only [wp_bind]
  rw [← h8]
  conv_lhs => rw [← h0]
  refine (wp_block (c := 0) hnb x Y).trans (wp_mono _ _ _ fun _ => ?_)
  refine (wp_block (c := 1) hnb x Y).trans (wp_mono _ _ _ fun _ => ?_)
  refine (wp_block (c := 2) hnb x Y).trans (wp_mono _ _ _ fun _ => ?_)
  refine (wp_block (c := 3) hnb x Y).trans (wp_mono _ _ _ fun _ => ?_)
  refine (wp_block (c := 4) hnb x Y).trans (wp_mono _ _ _ fun _ => ?_)
  refine (wp_block (c := 5) hnb x Y).trans (wp_mono _ _ _ fun _ => ?_)
  refine (wp_block (c := 6) hnb x Y).trans (wp_mono _ _ _ fun _ => ?_)
  exact wp_block (c := 7) hnb x Y

end Run

end Cert.Proof.Pool

end
-- ==== Proof.TaskRun.lean ====
/-
  The task of one vector subcore, run: the neighbour table and two tiles of rows come in by copies, each tile is pooled
  (`wp_tile`), and the two tiles of results go out by copies. Run from its read shares of the rows and of the table and
  from its own rows of the result, the task leaves `best` in every element of those rows.
-/
module

public import proofs.«01_k».proof.Proof.Trip

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "xV" => (Memref.whole Cert.KernelIdeal.main_v4_scv : Memref Cert.KernelIdeal.sig Kind.scVector Space.hbm Cert.KernelIdeal.S8192x512 EltTy.f32)
local notation "ntV" => (Memref.whole Cert.KernelIdeal.main_v3_scv : Memref Cert.KernelIdeal.sig Kind.scVector Space.hbm Cert.KernelIdeal.S9x128 EltTy.i32)
local notation "oV" => (Memref.whole Cert.KernelIdeal.main_v12_scv : Memref Cert.KernelIdeal.sig Kind.scVector Space.hbm Cert.KernelIdeal.S2048x128 EltTy.f32)
local notation "x0V" => (Memref.whole Cert.KernelIdeal.cc1_scratch0 : Memref Cert.KernelIdeal.sig Kind.scVector Space.vmem Cert.KernelIdeal.S32x512 EltTy.f32)
local notation "x1V" => (Memref.whole Cert.KernelIdeal.cc1_scratch1 : Memref Cert.KernelIdeal.sig Kind.scVector Space.vmem Cert.KernelIdeal.S32x512 EltTy.f32)
local notation "o0V" => (Memref.whole Cert.KernelIdeal.cc1_scratch2 : Memref Cert.KernelIdeal.sig Kind.scVector Space.vmem Cert.KernelIdeal.S32x128 EltTy.f32)
local notation "o1V" => (Memref.whole Cert.KernelIdeal.cc1_scratch3 : Memref Cert.KernelIdeal.sig Kind.scVector Space.vmem Cert.KernelIdeal.S32x128 EltTy.f32)
local notation "nbV" => (Memref.whole Cert.KernelIdeal.cc1_scratch4 : Memref Cert.KernelIdeal.sig Kind.scVector Space.vmem Cert.KernelIdeal.S9x128 EltTy.i32)

/-! ## `Holds` and the buffer it speaks of -/

theorem holds_of {sp : Space} {s : Shape} {e : EltTy} {thr : Thread nD τ} {b : Memref sig thr.2.kind sp s e} {X : s.Idx → Elt F e}
    {g : Buf (Elt F) (b.view.loc thr)} (h : b.view.read (Elt F) g = X) :
    (b.view.loc thr ↦[b.view.set]{fullShare} g : sProp (𝕄 F)) ⊢ Holds thr b X := by
  unfold Holds
  iintro H
  iexists g
  isplitr
  · ipureintro; exact h
  · iexact H

theorem holds_pts {sp : Space} {s : Shape} {e : EltTy} {thr : Thread nD τ} {b : Memref sig thr.2.kind sp s e} {X : s.Idx → Elt F e} :
    (Holds thr b X : sProp (𝕄 F)) ⊢ iprop(∃ g, ⌜b.view.read (Elt F) g = X⌝ ∗ b.view.loc thr ↦[b.view.set]{fullShare} g) := by
  unfold Holds
  exact .rfl

section Task

variable (d : Dev nD) (L : grid1.Coords)

/-- The semaphore cell of vector subcore `L` that the copy semaphore `s` names. -/
abbrev cellV (s : DmaSems sig S_) : GSem nD τ sig := (thrV d L, .dma s.sem)

/-- The five copy semaphores at zero. -/
abbrev cells0 : sProp (𝕄 F) :=
  iprop(semVal (cellV d L cc1_scratch5) 0 ∗ semVal (cellV d L cc1_scratch6) 0 ∗ semVal (cellV d L cc1_scratch7) 0
    ∗ semVal (cellV d L cc1_scratch8) 0 ∗ semVal (cellV d L cc1_scoped0) 0)

theorem task_run (X : S8192x512.Idx → F .f32) (N : S9x128.Idx → BitVec 32) (hN : InRange N) (q₀ q₁ qn : PosShare TreeShare)
    (O : CellTallies nD τ sig (HIx 1)) (W : Waits sig (HIx 1))
    (f0 f1 : Buf (Elt F) ((oV).view.loc (thrV d L)))
    (g0 : Buf (Elt F) ((x0V).view.loc (thrV d L))) (g1 : Buf (Elt F) ((x1V).view.loc (thrV d L)))
    (h0 : Buf (Elt F) ((o0V).view.loc (thrV d L))) (h1 : Buf (Elt F) ((o1V).view.loc (thrV d L)))
    (n0 : Buf (Elt F) ((nbV).view.loc (thrV d L))) :
    (iprop(Transfers.MayWaits (thrV d L) (default : HIx 1) O
        ∗ ((xV).view.loc (thrV d L) ↦{q₀} X)
        ∗ ((xV).view.loc (thrV d L) ↦{q₁} X)
        ∗ ((ntV).view.loc (thrV d L) ↦{qn} N)
        ∗ ((outRows L oV 0).view.loc (thrV d L) ↦[(outRows L oV 0).view.set]{fullShare} f0)
        ∗ ((outRows L oV 1).view.loc (thrV d L) ↦[(outRows L oV 1).view.set]{fullShare} f1)
        ∗ ((x0V).view.loc (thrV d L) ↦[(x0V).view.set]{fullShare} g0)
        ∗ ((x1V).view.loc (thrV d L) ↦[(x1V).view.set]{fullShare} g1)
        ∗ ((o0V).view.loc (thrV d L) ↦[(o0V).view.set]{fullShare} h0)
        ∗ ((o1V).view.loc (thrV d L) ↦[(o1V).view.set]{fullShare} h1)
        ∗ ((nbV).view.loc (thrV d L) ↦[(nbV).view.set]{fullShare} n0)
        ∗ cells0 d L
        ∗ owes (thrV d L) O W) : sProp (𝕄 F))
      ⊢ wp frame (wpE (defs₀ (F := F)) 𝒱₀ (thrV d L) none) Set.univ
          (task L xV (Memref.isWhole_whole _) ntV (Memref.isWhole_whole _) oV (Memref.isWhole_whole _) x0V (Memref.isWhole_whole _)
            x1V (Memref.isWhole_whole _) o0V (Memref.isWhole_whole _) o1V (Memref.isWhole_whole _) nbV (Memref.isWhole_whole _)
            cc1_scratch5 cc1_scratch6 cc1_scratch7 cc1_scratch8 cc1_scoped0)
          fun _ => iprop(((xV).view.loc (thrV d L) ↦{q₀} X)
        ∗ ((xV).view.loc (thrV d L) ↦{q₁} X)
        ∗ ((ntV).view.loc (thrV d L) ↦{qn} N)
        ∗ Holds (thrV d L) (outRows L oV 0) (fun y => best ((inRows L xV 0).view.read (Elt F) X) N (y 0) (y 1))
        ∗ Holds (thrV d L) (outRows L oV 1) (fun y => best ((inRows L xV 1).view.read (Elt F) X) N (y 0) (y 1))
        ∗ (∃ g, (x0V).view.loc (thrV d L) ↦[(x0V).view.set]{fullShare} g)
        ∗ (∃ g, (x1V).view.loc (thrV d L) ↦[(x1V).view.set]{fullShare} g)
        ∗ (∃ g, (o0V).view.loc (thrV d L) ↦[(o0V).view.set]{fullShare} g)
        ∗ (∃ g, (o1V).view.loc (thrV d L) ↦[(o1V).view.set]{fullShare} g)
        ∗ (∃ g, (nbV).view.loc (thrV d L) ↦[(nbV).view.set]{fullShare} g)
        ∗ cells0 d L
        ∗ ∃ W', owes (thrV d L) O W') := by
  iintro ⟨#Hmw, HX0, HX1, HN, HO0, HO1, Hx0, Hx1, Ho0, Ho1, Hnb, ⟨Hc0, Hc1, Hc2, Hc3, Hc4⟩, HO⟩
  have ht0 := fun x Y => wp_tile (F := F) (d := d) (L := L) (tb := nbV) (src := x0V) (dst := o0V) hN x Y
  have ht1 := fun x Y => wp_tile (F := F) (d := d) (L := L) (tb := nbV) (src := x1V) (dst := o1V) hN x Y
  sl_unfold [task]
  generalize tile (F := F) L nbV x0V o0V = T0 at ht0 ⊢
  generalize tile (F := F) L nbV x1V o1V = T1 at ht1 ⊢
  sl_exec
  rw [wp_bind]
  iapply (wp_wand_r Idealize.ShloMosaic.frame (wpE (defs₀ (F := F)) 𝒱₀ (thrV d L) none) Set.univ)
  isplitl [Hnb Hx0 Ho0]
  · iapply (ht0 ((inRows L xV 0).view.read (Elt F) X) ((o0V).view.read (Elt F) h0))
    isplitl [Hnb]
    · iapply (holds_of (F := F) (thr := thrV d L) (b := nbV) (View.read_writes_whole _ _ _)) $$ Hnb
    isplitl [Hx0]
    · iapply (holds_of (F := F) (thr := thrV d L) (b := x0V) (View.read_writes_whole _ _ _)) $$ Hx0
    iapply (holds_of (F := F) (thr := thrV d L) (b := o0V) rfl) $$ Ho0
  iintro %_ ⟨Hnb, Hx0, Ho0⟩
  ihave Hnb := (holds_pts (F := F) (thr := thrV d L) (b := nbV)) $$ Hnb
  ihave Hx0 := (holds_pts (F := F) (thr := thrV d L) (b := x0V)) $$ Hx0
  ihave Ho0 := (holds_pts (F := F) (thr := thrV d L) (b := o0V)) $$ Ho0
  icases Hnb with ⟨%n1, %hn1, Hnb⟩
  icases Hx0 with ⟨%g2, %hg2, Hx0⟩
  icases Ho0 with ⟨%h2, %hh2, Ho0⟩
  sl_exec
  rw [wp_bind]
  iapply (wp_wand_r Idealize.ShloMosaic.frame (wpE (defs₀ (F := F)) 𝒱₀ (thrV d L) none) Set.univ)
  isplitl [Hnb Hx1 Ho1]
  · iapply (ht1 ((inRows L xV 1).view.read (Elt F) X) ((o1V).view.read (Elt F) h1))
    isplitl [Hnb]
    · iapply (holds_of (F := F) (thr := thrV d L) (b := nbV) hn1) $$ Hnb
    isplitl [Hx1]
    · iapply (holds_of (F := F) (thr := thrV d L) (b := x1V) (View.read_writes_whole _ _ _)) $$ Hx1
    iapply (holds_of (F := F) (thr := thrV d L) (b := o1V) rfl) $$ Ho1
  iintro %_ ⟨Hnb, Hx1, Ho1⟩
  ihave Hnb := (holds_pts (F := F) (thr := thrV d L) (b := nbV)) $$ Hnb
  ihave Hx1 := (holds_pts (F := F) (thr := thrV d L) (b := x1V)) $$ Hx1
  ihave Ho1 := (holds_pts (F := F) (thr := thrV d L) (b := o1V)) $$ Ho1
  icases Hnb with ⟨%n2, %hn2, Hnb⟩
  icases Hx1 with ⟨%g3, %hg3, Hx1⟩
  icases Ho1 with ⟨%h3, %hh3, Ho1⟩
  sl_exec
  sl_step
  isplitl [HX0]; · iexact HX0
  isplitl [HX1]; · iexact HX1
  isplitl [HN]; · iexact HN
  isplitl [HO0]
  · iapply (holds_of (F := F) (thr := thrV d L) (b := outRows L oV 0)
      (show (outRows L oV 0).view.read (Elt F) ((outRows L oV 0).view.writes (Elt F) f0 [⟨Rect.whole S32x128, task_run.sl.dma0_3 d L h2⟩]) = _
        from (View.read_writes_whole _ _ _).trans hh2)) $$ HO0
  isplitl [HO1]
  · iapply (holds_of (F := F) (thr := thrV d L) (b := outRows L oV 1)
      (show (outRows L oV 1).view.read (Elt F) ((outRows L oV 1).view.writes (Elt F) f1 [⟨Rect.whole S32x128, task_run.sl.dma0_4 d L h3⟩]) = _
        from (View.read_writes_whole _ _ _).trans hh3)) $$ HO1
  sl_close

/-! ## From what the launch deals to what it takes back -/

/-- The rows, the neighbour table and the result, as every thread of device `d` names them. -/
abbrev xLoc (d : Dev nD) : Loc nD τ sig := (T d : Thread nD τ).loc main_v4
abbrev nLoc (d : Dev nD) : Loc nD τ sig := (T d : Thread nD τ).loc main_v3
abbrev oLoc (d : Dev nD) : Loc nD τ sig := (T d : Thread nD τ).loc main_v12

/-- The elements of the result that tile `r` of subcore `L` writes. -/
abbrev outSet (L : grid1.Coords) (r : Fin 2) : Finset S2048x128.Idx := (outRows L oV r).view.set

/-- What the vector subcores compute: rows 6144 and on of the pooled rows. -/
def scOut (X : S8192x512.Idx → F .f32) (N : S9x128.Idx → BitVec 32) : S2048x128.Idx → F .f32 :=
  fun y => best X N (⟨6144 + (y 0).val, by have : (y 0).val < 2048 := (y 0).isLt; omega⟩ : Fin 8192) (y 1)

theorem outRows_emb (r : Fin 2) (y : S32x128.Idx) (a : Fin 2) :
    ((outRows L oV r).view.emb y a).val = k1_off20 L (BitVec.ofNat 32 (32 * r.val)) a + (y a).val := by
  show ((Rect.unit (s := S2048x128) (k1_off20 L (BitVec.ofNat 32 (32 * r.val))) S32x128.size (k1_off20_inb L r)).emb y a).val = _
  rw [Rect.emb_apply]
  simp

/-- Tile `r`'s results, read back through its rows, are what the subcores compute there. -/
theorem scOut_of_read (X : S8192x512.Idx → F .f32) (N : S9x128.Idx → BitVec 32) (r : Fin 2) (g : S2048x128.Idx → F .f32)
    (h : (outRows L oV r).view.read (Elt F) g = fun y => best ((inRows L xV r).view.read (Elt F) X) N (y 0) (y 1)) :
    ∀ i ∈ outSet L r, g i = scOut X N i := by
  intro i hi
  obtain ⟨y, -, rfl⟩ := Finset.mem_map.mp hi
  have hy := congrFun h y
  rw [View.read_apply] at hy
  refine (cast_eq _ _).symm.trans (hy.trans ?_)
  have e0 := outRows_emb L r y 0
  have e1 := outRows_emb L r y 1
  rw [k1_off20_eq] at e0 e1
  have hx : ∀ z : S32x512.Idx, (inRows L xV r).view.read (Elt F) X z = X ((inRows L xV r).view.emb z) :=
    fun z => (View.read_apply _ _).trans (cast_eq _ _)
  have hz : ∀ (z : S32x512.Idx) (a : Fin 2), ((inRows L xV r).view.emb z a).val = k1_off1 L (BitVec.ofNat 32 (32 * r.val)) a + (z a).val := by
    intro z a
    show ((Rect.unit (s := S8192x512) (k1_off1 L (BitVec.ofNat 32 (32 * r.val))) S32x512.size (k1_off1_inb L r)).emb z a).val = _
    rw [Rect.emb_apply]
    simp
  show best _ N _ _ = best X N _ _
  unfold best
  congr 1
  funext j
  rw [hx]
  congr 1
  have hcol : (outRows L oV r).view.emb y 1 = (y 1 : Fin 128) := Fin.ext (e1.trans (by simp))
  funext a
  apply Fin.ext
  rw [hz, k1_off1_eq]
  match a with
  | 0 =>
    show 128 * (L 1).val + 64 * (L 0).val + 32 * r.val + 6144 + (y 0).val = 6144 + ((outRows L oV r).view.emb y 0).val
    rw [e0]
    show _ = 6144 + (128 * (L 1).val + 64 * (L 0).val + 32 * r.val + (y 0).val)
    omega
  | 1 =>
    show 0 + (nbr N j (y 1)).val = (nbr N j ((outRows L oV r).view.emb y 1)).val
    rw [hcol, Nat.zero_add]

/-- The subcore's own cells at zero: the five the task names, and the rest. -/
theorem ownSems0_V :
    (ownSems0 (thrV d L) : sProp (𝕄 F))
      = iprop(cells0 d L
          ∗ bigSep ((ownCells (thrV d L)) \ Finset.univ.image fun k : Fin 5 => (((thrV d L), .dma (⟨5 + k.val, by have := k.isLt; show _ < 10; omega⟩ : DmaSem sig)) : GSem nD τ sig))
              fun g => semVal g 0) := by
  unfold SparseCore.Cfg.ownSems0
  rw [SparseCore.bigSep_sdiff_split' (t := Finset.univ.image fun k : Fin 5 => (((thrV d L), .dma (⟨5 + k.val, by have := k.isLt; show _ < 10; omega⟩ : DmaSem sig)) : GSem nD τ sig))
      (Finset.image_subset_iff.mpr fun k _ => mem_ownCells.mpr ⟨rfl, (show ∀ s : DmaSem sig, (SemLoc.dma s : SemLoc sig).isScoped .scVector = true by decide) _⟩),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The task's five scratch buffers. -/
def scr : Fin 5 → Ref sig .scVector := ![cc1_scratch0, cc1_scratch1, cc1_scratch2, cc1_scratch3, cc1_scratch4]

/-- The subcore's own buffers: the five scratch buffers at some contents, and the rest. -/
theorem ownBufs_V :
    (ownBufs (thrV d L) : sProp (𝕄 F))
      = iprop(((∃ f, (thrV d L).loc cc1_scratch0 ↦{fullShare} f) ∗ (∃ f, (thrV d L).loc cc1_scratch1 ↦{fullShare} f)
            ∗ (∃ f, (thrV d L).loc cc1_scratch2 ↦{fullShare} f) ∗ (∃ f, (thrV d L).loc cc1_scratch3 ↦{fullShare} f)
            ∗ (∃ f, (thrV d L).loc cc1_scratch4 ↦{fullShare} f))
          ∗ bigSep ((ownRefs (τ := τ) (.scVector (cV L) (jV L))) \ Finset.univ.image fun k : Fin 5 => (Proc.scVector (cV L) (jV L)).devRef (scr k))
              fun b => iprop(∃ f, ((d, b) : Loc nD τ sig) ↦{fullShare} f)) := by
  unfold SparseCore.Cfg.ownBufs
  rw [SparseCore.bigSep_sdiff_split' (t := Finset.univ.image fun k : Fin 5 => (Proc.scVector (cV L) (jV L)).devRef (scr k))
      (Finset.image_subset_iff.mpr fun k _ => SparseCore.Cfg.mem_ownRefs_of_owner (p := Proc.scVector (cV L) (jV L))
        ((show ∀ k : Fin 5, ((Proc.scVector (cV L) (jV L)).devRef (scr k)).owner = .proc (.scVector (cV L) (jV L)) from
          fun k => by fin_cases k <;> rfl) k)),
    SparseCore.bigSep_image_of_injOn (fun a _ b _ h => (show Function.Injective scr by decide) (Proc.devRef_injective _ h))]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

theorem pts_scr (b : Ref sig .scVector) (f : Buf (Elt F) ((thrV d L).loc b)) :
    ((Memref.whole b).view.loc (thrV d L) ↦[(Memref.whole b).view.set]{fullShare} f : sProp (𝕄 F)) = (thrV d L).loc b ↦{fullShare} f := by
  rw [View.set_whole]

/-- What a task is handed, and what it hands back: a read share of the rows and of the table, its own rows of the result. -/
def goPts (q : PosShare TreeShare) (X : S8192x512.Idx → F .f32) (N : S9x128.Idx → BitVec 32) : sProp (𝕄 F) :=
  iprop((xLoc d ↦{q} X) ∗ (nLoc d ↦{q} N) ∗ bigSep Finset.univ fun r : Fin 2 => iprop(∃ f, oLoc d ↦[outSet L r]{fullShare} f))
def tdPts (q : PosShare TreeShare) (X : S8192x512.Idx → F .f32) (N : S9x128.Idx → BitVec 32) : sProp (𝕄 F) :=
  iprop((xLoc d ↦{q} X) ∗ (nLoc d ↦{q} N) ∗ bigSep Finset.univ fun r : Fin 2 => oLoc d ↦[outSet L r]{fullShare} scOut X N)

theorem task_body (hF : (K (F := F)).Facts) (X : S8192x512.Idx → F .f32) (N : S9x128.Idx → BitVec 32) (hN : InRange N) (q : PosShare TreeShare)
    (O : CellTallies nD τ sig (HIx 1)) (W : Waits sig (HIx 1)) (hO : ∀ g, O g none = 0) :
    iprop(levAts (K (F := F)).L (K (F := F)).lev ∗ emp ∗ goPts d L q X N
        ∗ scopedBufs (thrV d L) ∗ scopedSems0 (thrV d L) ∗ owes (thrV d L) O W)
      ⊢ wp frame (wpE (defs₀ (F := F)) 𝒱₀ (thrV d L) none) Set.univ
          (cc1_k L xV (Memref.isWhole_whole _) ntV (Memref.isWhole_whole _) oV (Memref.isWhole_whole _) x0V (Memref.isWhole_whole _)
            x1V (Memref.isWhole_whole _) o0V (Memref.isWhole_whole _) o1V (Memref.isWhole_whole _) nbV (Memref.isWhole_whole _)
            cc1_scratch5 cc1_scratch6 cc1_scratch7 cc1_scratch8 cc1_scoped0)
          fun _ => iprop(tdPts d L q X N
            ∗ scopedBufs (thrV d L) ∗ scopedSems0 (thrV d L)
            ∗ ∃ W', ⌜∀ p ∈ W', p ∈ W ∨ p.2 = none ∨ p.2 = some (0 : Fin 1)⌝ ∗ owes (thrV d L) O W') := by
  rw [(K (F := F)).scopedBufs_V hF d (cV L) (jV L), SparseCore.Cfg.scopedSems0_V (Val := Elt F) d (cV L) (jV L), ownSems0_V, ownBufs_V,
    cc1_k_eq_task]
  unfold goPts tdPts
  rw [show (Finset.univ : Finset (Fin 2)) = {0, 1} by decide, SparseCore.bigSep_insert' (by decide), bigSep_singleton,
    SparseCore.bigSep_insert' (by decide), bigSep_singleton]
  iintro ⟨#Hlv, -, ⟨Hx, Hn, ⟨%f0, HO0⟩, ⟨%f1, HO1⟩⟩, ⟨⟨⟨%g0, H0⟩, ⟨%g1, H1⟩, ⟨%h0, H2⟩, ⟨%h1, H3⟩, ⟨%n0, H4⟩⟩, Hbufs⟩, ⟨HC, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hx := (pointsTo_share (ℓ := xLoc d) (I := Finset.univ) (f := X) (PosShare.mem_left_op_right q)).1 $$ Hx
  icases Hx with ⟨Hxd, Hxt⟩
  iapply (wp_wand_r Idealize.ShloMosaic.frame (wpE (defs₀ (F := F)) 𝒱₀ (thrV d L) none) Set.univ)
  isplitl [Hxd Hxt Hn HO0 HO1 H0 H1 H2 H3 H4 HC HO]
  · iapply (task_run d L X N hN q.left q.right q O W f0 f1 g0 g1 h0 h1 n0)
    isplitr; · iexact Hmw
    isplitl [Hxd]; · iexact Hxd
    isplitl [Hxt]; · iexact Hxt
    isplitl [Hn]; · iexact Hn
    isplitl [HO0]; · iexact HO0
    isplitl [HO1]; · iexact HO1
    isplitl [H0]; · iapply (Entails.of_eq (pts_scr (F := F) d L cc1_scratch0 g0).symm) $$ H0
    isplitl [H1]; · iapply (Entails.of_eq (pts_scr (F := F) d L cc1_scratch1 g1).symm) $$ H1
    isplitl [H2]; · iapply (Entails.of_eq (pts_scr (F := F) d L cc1_scratch2 h0).symm) $$ H2
    isplitl [H3]; · iapply (Entails.of_eq (pts_scr (F := F) d L cc1_scratch3 h1).symm) $$ H3
    isplitl [H4]; · iapply (Entails.of_eq (pts_scr (F := F) d L cc1_scratch4 n0).symm) $$ H4
    isplitl [HC]; · iexact HC
    iexact HO
  iintro %_ ⟨Hxd, Hxt, Hn, HO0, HO1, ⟨%g0', H0⟩, ⟨%g1', H1⟩, ⟨%h0', H2⟩, ⟨%h1', H3⟩, ⟨%n0', H4⟩, HC, ⟨%W', HO⟩⟩
  ihave HO0 := (holds_pts (F := F) (thr := thrV d L) (b := outRows L oV 0)) $$ HO0
  ihave HO1 := (holds_pts (F := F) (thr := thrV d L) (b := outRows L oV 1)) $$ HO1
  icases HO0 with ⟨%o0, %ho0, HO0⟩
  icases HO1 with ⟨%o1, %ho1, HO1⟩
  isplitl [Hxd Hxt Hn HO0 HO1]
  · isplitl [Hxd Hxt]
    · iapply (pointsTo_share (ℓ := xLoc d) (I := Finset.univ) (f := X) (PosShare.mem_left_op_right q)).2
      isplitl [Hxd]; · iexact Hxd
      iexact Hxt
    isplitl [Hn]; · iexact Hn
    isplitl [HO0]
    · iapply (Entails.of_eq (pointsTo_congr (scOut_of_read L X N 0 o0 ho0))) $$ HO0
    · iapply (Entails.of_eq (pointsTo_congr (scOut_of_read L X N 1 o1 ho1))) $$ HO1
  isplitl [H0 H1 H2 H3 H4 Hbufs]
  · isplitl [H0 H1 H2 H3 H4]
    · isplitl [H0]; · iexists g0'; iapply (Entails.of_eq (pts_scr (F := F) d L cc1_scratch0 g0')) $$ H0
      isplitl [H1]; · iexists g1'; iapply (Entails.of_eq (pts_scr (F := F) d L cc1_scratch1 g1')) $$ H1
      isplitl [H2]; · iexists h0'; iapply (Entails.of_eq (pts_scr (F := F) d L cc1_scratch2 h0')) $$ H2
      isplitl [H3]; · iexists h1'; iapply (Entails.of_eq (pts_scr (F := F) d L cc1_scratch3 h1')) $$ H3
      iexists n0'; iapply (Entails.of_eq (pts_scr (F := F) d L cc1_scratch4 n0')) $$ H4
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end Task

end Cert.Proof.Pool

end
-- ==== Proof.Dispatch.lean ====
/-
  The SparseCore call: what its start and done signals carry, each task's obligation, and how the rows, the neighbour
  table and the result are dealt to the thirty-two tasks and put together again.
-/
module

public import proofs.«01_k».proof.Proof.TaskRun

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (X : Dev nD → S8192x512.Idx → F .f32) (N : Dev nD → S9x128.Idx → BitVec 32)

/-- The grid point of SparseCore `c`, subcore `i`. -/
def at_ (c : Fin 2) (i : Fin 16) : grid1.Coords :=
  fun | 0 => c | 1 => i | ⟨_ + 2, h⟩ => absurd h (Nat.not_lt.2 (Nat.le_add_left _ _))

/-- The read share of subcore `i` of SparseCore `c`. -/
def tileShare (c : Fin 2) (i : Fin 16) : PosShare TreeShare :=
  Transfers.dealOf (Transfers.dealOf fullShare Finset.univ c) Finset.univ i

theorem nCore_zero : (K (F := F)).nCore 0 = 2 := rfl
theorem nSub_zero : (K (F := F)).nSub 0 = 16 := rfl

def goAt (d : Dev nD) (c : Fin 2) (i : Fin 16) : sProp (𝕄 F) := goPts d (at_ c i) (tileShare c i) (X d) (N d)
def tdAt (d : Dev nD) (c : Fin 2) (i : Fin 16) : sProp (𝕄 F) := tdPts d (at_ c i) (tileShare c i) (X d) (N d)

instance goAt_storable (d : Dev nD) (c : Fin 2) (i : Fin 16) : BI.Storable (upEmb : UEmb _ (𝕄 F)) (goAt X N d c i) := by
  unfold goAt goPts; infer_instance
instance tdAt_storable (d : Dev nD) (c : Fin 2) (i : Fin 16) : BI.Storable (upEmb : UEmb _ (𝕄 F)) (tdAt X N d c i) := by
  unfold tdAt tdPts; infer_instance

/-- The call: a SparseCore is started with what its sixteen tasks take, and is done with what they hand back. -/
def P : (K (F := F)).Pay (nD := nD) (Val := Elt F) (Name := ℕ) (U := UU) where
  st := fun q d c => match q with | 0 => bigSep Finset.univ fun i : Fin 16 => goAt X N d (Fin.cast nCore_zero c) i
  dn := fun q d c => match q with | 0 => bigSep Finset.univ fun i : Fin 16 => tdAt X N d (Fin.cast nCore_zero c) i
  go := fun q d c i => match q with | 0 => goAt X N d (Fin.cast nCore_zero c) (Fin.cast nSub_zero i)
  td := fun q d c i => match q with | 0 => tdAt X N d (Fin.cast nCore_zero c) (Fin.cast nSub_zero i)
  x := fun _ _ => iprop(emp)

instance P_storable : (P X N).IsStorable where
  st q d c := match q with
    | 0 => (inferInstance : BI.Storable (upEmb : UEmb _ (𝕄 F)) (bigSep Finset.univ fun i : Fin 16 => goAt X N d (Fin.cast nCore_zero c) i))
  dn q d c := match q with
    | 0 => (inferInstance : BI.Storable (upEmb : UEmb _ (𝕄 F)) (bigSep Finset.univ fun i : Fin 16 => tdAt X N d (Fin.cast nCore_zero c) i))
  go q d c i := match q with | 0 => goAt_storable X N d (Fin.cast nCore_zero c) (Fin.cast nSub_zero i)
  td q d c i := match q with | 0 => tdAt_storable X N d (Fin.cast nCore_zero c) (Fin.cast nSub_zero i)

/-! ## The tasks -/

theorem defs₀_vector (c : Fin τ.nSC) (s : Fin τ.nSub) :
    defs₀ (F := F) (.scVector c s) 1 ()
      = SparseCore.onTile hcore1 hsub1 (fun c s => cc1_k (at_ c s)
          (Memref.whole main_v4_scv) (Memref.isWhole_whole _) (Memref.whole main_v3_scv) (Memref.isWhole_whole _)
          (Memref.whole main_v12_scv) (Memref.isWhole_whole _) (Memref.whole cc1_scratch0) (Memref.isWhole_whole _)
          (Memref.whole cc1_scratch1) (Memref.isWhole_whole _) (Memref.whole cc1_scratch2) (Memref.isWhole_whole _)
          (Memref.whole cc1_scratch3) (Memref.isWhole_whole _) (Memref.whole cc1_scratch4) (Memref.isWhole_whole _)
          cc1_scratch5 cc1_scratch6 cc1_scratch7 cc1_scratch8 cc1_scoped0) ⟨⟩ c s := rfl

theorem tileObl (hN : ∀ d, InRange (N d)) : (K (F := F)).TileObl (D (F := F)) 𝒱 (P X N) v₀ 0 := by
  intro d c i O W hO _ _
  simp only [show (P X N).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_body d (at_ (Fin.cast nCore_zero c) (Fin.cast nSub_zero i)) scFacts (X d) (N d) (hN d) _ O W hO

theorem vecSplit : (K (F := F)).VecSplit' (P X N) 0 := by
  intro d c
  show (bigSep Finset.univ fun i : Fin 16 => goAt X N d (Fin.cast nCore_zero c) i : sProp (𝕄 F))
    ⊢ |={Set.univ}=> iprop((bigSep Finset.univ fun i : Fin 16 => goAt X N d (Fin.cast nCore_zero c) i)
      ∗ ((bigSep Finset.univ fun i : Fin 16 => tdAt X N d (Fin.cast nCore_zero c) i)
        -∗ bigSep Finset.univ fun i : Fin 16 => tdAt X N d (Fin.cast nCore_zero c) i))
  iintro H
  imodintro
  isplitl [H]; · iexact H
  iintro H
  iexact H

/-! ## Dealing and collecting -/

/-- A whole array is dealt to the thirty-two subcores as read shares. -/
theorem deal_shares (ℓ : Loc nD τ sig) (f : Buf (Elt F) ℓ) :
    (ℓ ↦{fullShare} f : sProp (𝕄 F)) = bigSep Finset.univ fun c : Fin 2 => bigSep Finset.univ fun i : Fin 16 => ℓ ↦{tileShare c i} f := by
  rw [Transfers.pointsTo_deal (Lvl := ℕ) (ℓ := ℓ) (S := Finset.univ) (f := f) (Finset.univ : Finset (Fin 2)) Finset.univ_nonempty fullShare]
  refine BI.bigSep_congr fun c _ => ?_
  exact Transfers.pointsTo_deal (Lvl := ℕ) (ℓ := ℓ) (S := Finset.univ) (f := f) (Finset.univ : Finset (Fin 16)) Finset.univ_nonempty _

theorem mem_outSet (c : Fin 2) (i : Fin 16) (r : Fin 2) (y : S2048x128.Idx) :
    y ∈ outSet (at_ c i) r ↔ 128 * i.val + 64 * c.val + 32 * r.val ≤ (y 0).val ∧ (y 0).val < 128 * i.val + 64 * c.val + 32 * r.val + 32 := by
  have h1 : (y 1).val < 128 := (y 1).isLt
  rw [show outSet (at_ c i) r = (Rect.unit (s := S2048x128) (k1_off20 (at_ c i) (BitVec.ofNat 32 (32 * r.val))) S32x128.size (k1_off20_inb (at_ c i) r)).set from by
    show ((View.whole (main_v12_scv : Ref sig .scVector)).slice _).set = _
    rw [View.set_slice]; exact Finset.map_refl]
  rw [Rect.mem_set_unit]
  constructor
  · intro h
    have h0 := h 0
    rw [k1_off20_eq] at h0
    exact h0
  · intro h a
    rw [k1_off20_eq]
    match a with
    | 0 => exact h
    | 1 => exact ⟨Nat.zero_le _, by show (y 1).val < 0 + 128; omega⟩

theorem outSet_cover : ((Finset.univ : Finset (Fin 2 × Fin 16 × Fin 2)).biUnion fun p => outSet (at_ p.1 p.2.1) p.2.2) = Finset.univ := by
  refine Finset.eq_univ_of_forall fun y => Finset.mem_biUnion.mpr ?_
  have hy : (y 0).val < 2048 := (y 0).isLt
  refine ⟨(⟨(y 0).val / 64 % 2, by omega⟩, ⟨(y 0).val / 128, by omega⟩, ⟨(y 0).val / 32 % 2, by omega⟩), Finset.mem_univ _, ?_⟩
  rw [mem_outSet]
  dsimp only
  constructor <;> omega

/-- The sixty-four blocks of rows are the whole result, dealt by core, subcore and tile. -/
theorem deal_rows (d : Dev nD) (f : Buf (Elt F) (oLoc d)) :
    (oLoc d ↦{fullShare} f : sProp (𝕄 F))
      = bigSep Finset.univ fun c : Fin 2 => bigSep Finset.univ fun i : Fin 16 => bigSep Finset.univ fun r : Fin 2 =>
          oLoc d ↦[outSet (at_ c i) r]{fullShare} f := by
  rw [show (oLoc d ↦{fullShare} f : sProp (𝕄 F)) = oLoc d ↦[(Finset.univ : Finset (Fin 2 × Fin 16 × Fin 2)).biUnion fun p => outSet (at_ p.1 p.2.1) p.2.2]{fullShare} f from ?_,
    pointsTo_biUnion, BI.bigSep_univ_prod]
  · refine BI.bigSep_congr fun c _ => ?_
    rw [BI.bigSep_univ_prod]
  · rintro ⟨c, i, r⟩ - ⟨c', i', r'⟩ - hne
    refine Finset.disjoint_left.mpr fun y h h' => hne ?_
    rw [mem_outSet] at h h'
    dsimp only at h h'
    have := c.isLt; have := c'.isLt; have := r.isLt; have := r'.isLt
    have hi : i = i' := Fin.ext (by omega)
    have hc : c = c' := Fin.ext (by omega)
    have hr : r = r' := Fin.ext (by omega)
    rw [hi, hc, hr]
  · rw [outSet_cover]

/-- Rows, table and result whole are what the two cores are started with. -/
theorem deal (d : Dev nD) (f : Buf (Elt F) (oLoc d)) :
    iprop((xLoc d ↦{fullShare} X d) ∗ (nLoc d ↦{fullShare} N d) ∗ oLoc d ↦{fullShare} f)
      ⊢ (bigSep Finset.univ fun c : Fin 2 => bigSep Finset.univ fun i : Fin 16 => goAt X N d c i : sProp (𝕄 F)) := by
  rw [deal_shares, deal_shares, deal_rows]
  rw [← bigSep_sep', ← bigSep_sep']
  refine BI.bigSep_mono fun c _ => ?_
  rw [← bigSep_sep', ← bigSep_sep']
  refine BI.bigSep_mono fun i _ => ?_
  unfold goAt goPts
  have h : (bigSep Finset.univ fun r : Fin 2 => oLoc d ↦[outSet (at_ c i) r]{fullShare} f : sProp (𝕄 F))
      ⊢ bigSep Finset.univ fun r : Fin 2 => iprop(∃ f, oLoc d ↦[outSet (at_ c i) r]{fullShare} f) :=
    BI.bigSep_mono fun r _ => show _ ⊢ _ from exists_intro (Φ := fun f => (oLoc d ↦[outSet (at_ c i) r]{fullShare} f : sProp (𝕄 F))) f
  exact sep_mono_right (sep_mono_right h)

/-- What the two cores are done with is rows and table whole, and the result as the subcores compute it. -/
theorem collect (d : Dev nD) :
    (bigSep Finset.univ fun c : Fin 2 => bigSep Finset.univ fun i : Fin 16 => tdAt X N d c i : sProp (𝕄 F))
      ⊢ iprop((xLoc d ↦{fullShare} X d) ∗ (nLoc d ↦{fullShare} N d) ∗ oLoc d ↦{fullShare} scOut (X d) (N d)) := by
  rw [deal_shares, deal_shares, deal_rows]
  rw [← bigSep_sep', ← bigSep_sep']
  refine BI.bigSep_mono fun c _ => ?_
  rw [← bigSep_sep', ← bigSep_sep']
  exact BI.bigSep_mono fun i _ => BI.Entails.refl _

end Cert.Proof.Pool

end
-- ==== Proof.Region.lean ====
/-
  The TensorCore's share of the pooling, run: over a grid of three points the pipeline stages a block of 2048 rows and
  the whole one-hot array, the body writes one block of the result, and the block goes back. The region leaves `mxuOut`
  in the 6144 rows the three blocks cover and what was there before in the others.
-/
module

public import proofs.«01_k».proof.Proof.Dispatch
public import Idealize.ShloMosaic.Lib.Pipeline.Value
public import Idealize.ShloMosaic.Lib.Pipeline.FrameBody
public import Idealize.ShloMosaic.Lib.Pipeline.RegionArrays
public import Idealize.ShloMosaic.Lib.VecWindow

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-! ## The body -/

/-- The body, from its three staging buffers held: the two it reads are handed back, and the third reads as what the
    body makes of them. -/
theorem body_run (d : Dev nD) (i : grid0.Coords)
    (M0 : Memref sig .tc .vmem S2048x512 .f32) (h0 : M0.IsWhole) (M1 : Memref sig .tc .vmem S512x1152 .bf16) (h1 : M1.IsWhole)
    (M2 : Memref sig .tc .vmem S2048x128 .f32) (h2 : M2.IsWhole)
    (X0 : S2048x512.Idx → F .f32) (X1 : S512x1152.Idx → F .bf16) (X2 : S2048x128.Idx → F .f32)
    (Q : PUnit → sProp (𝕄 F)) :
    iprop(owns (SparseCore.T d) M0 fullShare X0 ∗ owns (SparseCore.T d) M1 fullShare X1 ∗ owns (SparseCore.T d) M2 fullShare X2
        ∗ (iprop(owns (SparseCore.T d) M0 fullShare X0 ∗ owns (SparseCore.T d) M1 fullShare X1
            ∗ owns (SparseCore.T d) M2 fullShare (k0_pay1 X0 X1)) -∗ Q ⟨⟩))
      ⊢ wp Idealize.ShloMosaic.frame (wpE (defs₀ (F := F)) 𝒱₀ (SparseCore.T d) none) Set.univ (cc0_body i M0 h0 M1 h1 M2 h2) Q := by
  rw [cc0_body_eq_skeleton]
  sl_unfold [cc0_body_skel]
  unfold owns
  generalize k0_pay1 (F := F) = pay
  iintro ⟨⟨%f0, %e0, H0⟩, ⟨%f1, %e1, H1⟩, ⟨%f2, -, H2⟩, Hk⟩
  sl_exec
  sl_step
  iapply Hk
  isplitl [H0]; · iexists f0; isplitr; swap; (· iexact H0); ipureintro; exact e0
  isplitl [H1]; · iexists f1; isplitr; swap; (· iexact H1); ipureintro; exact e1
  iexists _; isplitr; swap; (· iexact H2); ipureintro
  rw [View.read_writes_full, View.readAt_full, View.readAt_full, e0, e1]

/-! ## What the region computes -/

/-- Block `b` of 2048 rows of `x`. -/
def blockX (x : S8192x512.Idx → F .f32) (b : Fin 4) : S2048x512.Idx → F .f32 :=
  fun y => x (ix2 (⟨b.val * 2048 + (y 0).val, by have h0 : (y 0).val < 2048 := (y 0).isLt; have := b.isLt; omega⟩ : Fin 8192) (y 1))

/-- The rows pooled by the body: row `r` is row `r % 2048` of what the body makes of block `r / 2048`. -/
def mxuOut (x : S8192x512.Idx → F .f32) (h : S512x1152.Idx → F .bf16) : S8192x128.Idx → F .f32 :=
  fun y => k0_pay1 (blockX x ⟨(y 0).val / 2048, by have h0 : (y 0).val < 8192 := (y 0).isLt; omega⟩) h
    (ix2 (⟨(y 0).val % 2048, Nat.mod_lt _ (by decide)⟩ : Fin 2048) (y 1))

/-- The array the region leaves: pooled in the rows below 6144, `r` in the others. -/
def mxuEnd (x : S8192x512.Idx → F .f32) (h : S512x1152.Idx → F .bf16) (r : S8192x128.Idx → F .f32) : S8192x128.Idx → F .f32 :=
  fun y => if (y 0).val < 6144 then mxuOut x h y else r y

/-! ## The proof data of the region -/

section Region

variable (X : Dev nD → S8192x512.Idx → F .f32) (H : Dev nD → S512x1152.Idx → F .bf16) (R : Dev nD → S8192x128.Idx → F .f32)

/-- The one-hot array and the array the TensorCore writes, on device `d`. -/
abbrev hLoc (d : Dev nD) : Loc nD τ sig := (SparseCore.T d).loc main_v10
abbrev rLoc (d : Dev nD) : Loc nD τ sig := (SparseCore.T d).loc main_v11

/-- The waits the TensorCore may have recorded by then: those at the lowest level. -/
abbrev early (d : Dev nD) : Set (SemLoc sig × HIx 1) := {p | (K (F := F)).lev (SparseCore.T d, p.1) p.2 ≤ 0}

/-- The proof data: the three arrays as the region finds them; after the body at a point, the two blocks it read and
    what it made of them; the start signals of the SparseCore call still owed throughout. -/
def dat (d : Dev nD) : Dat τ (Elt F) (HIx 1) ℕ UU ℕ cfg0 d where
  A w := match w with
    | ⟨0, _⟩ => X d
    | ⟨1, _⟩ => H d
    | ⟨2, _⟩ => R d
  after w t := match w with
    | ⟨0, _⟩ => (win0_0.blk t).view.read (Elt F) (X d)
    | ⟨1, _⟩ => (win0_1.blk t).view.read (Elt F) (H d)
    | ⟨2, _⟩ => k0_pay1 ((win0_0.blk t).view.read (Elt F) (X d)) ((win0_1.blk t).view.read (Elt F) (H d))
  Φ _ := BI.emp
  q _ := fullShare
  owed _ := (K (F := F)).Otc d 0
  recorded _ := early (F := F) d

theorem before_x (d : Dev nD) (t : Fin cfg0.N) (c) :
    (dat X H R d).before 0 t c = (win0_0.blk t).view.read (Elt F) (X d) :=
  ((dat X H R d).before_in_eq_fetched 0 rfl (fun _ => rfl) (fun _ _ _ => rfl) (fun _ => rfl) t c).trans rfl

theorem before_h (d : Dev nD) (t : Fin cfg0.N) (c) :
    (dat X H R d).before 1 t c = (win0_1.blk t).view.read (Elt F) (H d) :=
  ((dat X H R d).before_in_eq_fetched 1 rfl (fun _ => rfl) (fun _ _ _ => rfl) (fun _ => rfl) t c).trans rfl

/-- The body at every point takes the staged blocks to what the data says it leaves. -/
theorem body_obligation (d : Dev nD) : BodyObligation (dat X H R d) (defs₀ (F := F)) 𝒱₀ none Set.univ := fun t => by
  rw [bigSep_W0, bigSep_W0]
  rw [show (dat X H R d).owesAt none t.succ = (dat X H R d).owesAt none t.castSucc from rfl,
    show (dat X H R d).Φ t.succ = (dat X H R d).Φ t.castSucc from rfl]
  iintro ⟨HΦ, Howes, ⟨%d0, H0⟩, ⟨%d1, H1⟩, ⟨%d2, H2⟩⟩
  rw [before_x, before_h]
  iapply (body_run d (grid0.coords t) _ (hstage0_0 ((cfg0.slots t 0).cast nbuf0_0)) _ (hstage0_1 ((cfg0.slots t 1).cast nbuf0_1)) _
    (hstage0_2 ((cfg0.slots t 2).cast nbuf0_2)) _ _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The array it leaves -/

/-- Point `t` of the grid as a block number. -/
abbrev blkOf (t : Fin cfg0.N) : Fin 4 := ⟨t.val, lt_of_lt_of_le t.isLt (by rw [show cfg0.N = 3 from N_0]; decide)⟩

theorem index_x (t : Fin cfg0.N) : win0_0.index t 0 = t.val ∧ win0_0.index t 1 = 0 := by
  rcases fin_N0 t with rfl | rfl | rfl <;> decide +kernel
theorem index_h (t : Fin cfg0.N) : win0_1.index t 0 = 0 ∧ win0_1.index t 1 = 0 := by
  rcases fin_N0 t with rfl | rfl | rfl <;> decide +kernel
theorem index_r (t : Fin cfg0.N) : win0_2.index t 0 = t.val ∧ win0_2.index t 1 = 0 := by
  rcases fin_N0 t with rfl | rfl | rfl <;> decide +kernel

theorem read_x (d : Dev nD) (t : Fin cfg0.N) : (win0_0.blk t).view.read (Elt F) (X d) = blockX (X d) (blkOf t) := by
  funext y
  refine congrArg (X d) (Shape.idx_ext₂ ?_ ?_)
  · exact (win0_0.rect_emb_val t y 0).trans (by rw [(index_x t).1]; rfl)
  · exact win0_0.rect_emb_val_of_index_zero t 1 (index_x t).2 y

theorem read_h (d : Dev nD) (t : Fin cfg0.N) : (win0_1.blk t).view.read (Elt F) (H d) = H d := by
  funext y
  refine congrArg (H d) (Shape.idx_ext₂ ?_ ?_)
  · exact win0_1.rect_emb_val_of_index_zero t 0 (index_h t).1 y
  · exact win0_1.rect_emb_val_of_index_zero t 1 (index_h t).2 y

/-- What point `t` writes back is its block of `mxuOut`. -/
theorem flushed_eq (d : Dev nD) (t : Fin cfg0.N) :
    (dat X H R d).flushed 2 t = (win0_2.blk t).view.read (Elt F) (mxuOut (X d) (H d)) := by
  show k0_pay1 ((win0_0.blk t).view.read (Elt F) (X d)) ((win0_1.blk t).view.read (Elt F) (H d)) = _
  rw [read_x, read_h]
  funext y
  have e0 := (win0_2.rect_emb_val t y 0).trans (by rw [(index_r t).1]; rfl : _ = t.val * 2048 + (y 0).val)
  have e1 := win0_2.rect_emb_val_of_index_zero t 1 (index_r t).2 y
  have h0 : (y 0).val < 2048 := (y 0).isLt
  show _ = mxuOut (X d) (H d) ((win0_2.rect t).emb y)
  unfold mxuOut
  refine congr (congrArg (fun b => k0_pay1 (blockX (X d) b) (H d)) (Fin.ext ?_)) (Shape.idx_ext₂ ?_ e1.symm)
  · show t.val = ((win0_2.rect t).emb y 0).val / 2048
    rw [e0]; omega
  · show (y 0).val = ((win0_2.rect t).emb y 0).val % 2048
    rw [e0]; omega

/-- Row `r` is in point `t`'s block when it is one of its 2048 rows. -/
theorem mem_blk (t : Fin cfg0.N) (i : S8192x128.Idx) :
    i ∈ (win0_2.blk t).view.set ↔ t.val * 2048 ≤ (i 0).val ∧ (i 0).val < t.val * 2048 + 2048 := by
  show i ∈ ((View.whole main_v11).slice (win0_2.rect t)).set ↔ _
  rw [View.set_slice_whole, Rect.mem_set_unit]
  have h1 : (i 1).val < 128 := (i 1).isLt
  have e : win0_2.index t 0 * win0_2.size 0 = t.val * 2048 ∧ win0_2.xsize (grid0.coords t) 0 = 2048
      ∧ win0_2.index t 1 * win0_2.size 1 = 0 ∧ win0_2.xsize (grid0.coords t) 1 = 128 := by
    rcases fin_N0 t with rfl | rfl | rfl <;> decide +kernel
  constructor
  · intro h
    have h0 : win0_2.index t 0 * win0_2.size 0 ≤ (i 0).val ∧ (i 0).val < win0_2.index t 0 * win0_2.size 0 + win0_2.xsize (grid0.coords t) 0 := h 0
    rwa [e.1, e.2.1] at h0
  · intro h
    refine Fin.forall_fin_two.2 ⟨?_, ?_⟩
    · show win0_2.index t 0 * win0_2.size 0 ≤ (i 0).val ∧ (i 0).val < win0_2.index t 0 * win0_2.size 0 + win0_2.xsize (grid0.coords t) 0
      rwa [e.1, e.2.1]
    · show win0_2.index t 1 * win0_2.size 1 ≤ (i 1).val ∧ (i 1).val < win0_2.index t 1 * win0_2.size 1 + win0_2.xsize (grid0.coords t) 1
      rw [e.2.2.1, e.2.2.2]; omega

/-- The result's array after the three write-backs. -/
theorem final_r (d : Dev nD) : (dat X H R d).arrAt 2 cfg0.N = mxuEnd (X d) (H d) (R d) := by
  funext i
  refine ((dat X H R d).arrAt_eq_piecewise 2 (mxuOut (X d) (H d)) (fun t _ => flushed_eq X H R d t) i).trans ?_
  refine if_congr ⟨?_, ?_⟩ rfl rfl
  · rintro ⟨t, -, h⟩
    have h := (mem_blk t i).1 h
    have ht : t.val < 3 := lt_of_lt_of_eq t.isLt N_0
    show (i 0).val < 6144
    omega
  · intro h
    have hN : cfg0.N = 3 := N_0
    refine ⟨⟨(i 0).val / 2048, by omega⟩, flush0_2 _, (mem_blk _ i).2 ?_⟩
    show (i 0).val / 2048 * 2048 ≤ (i 0).val ∧ (i 0).val < (i 0).val / 2048 * 2048 + 2048
    omega

theorem final_x (d : Dev nD) : (dat X H R d).arrAt 0 cfg0.N = X d := (dat X H R d).arrAt_in 0 rfl _
theorem final_h (d : Dev nD) : (dat X H R d).arrAt 1 cfg0.N = H d := (dat X H R d).arrAt_in 1 rfl _

/-! ## The region over its three arrays -/

abbrev adm : (p : Fin 1) → (pcfgs (F := F) p).Adm := fun p => (cfgs p).toPCfg_adm
abbrev pdats : (p : Fin 1) → (c : Dev nD) → Dat τ (Elt F) (HIx 1) ℕ UU ℕ (Pipeline.pin (pcfgs (F := F)) adm p) c := fun _ c => dat X H R c

/-- What the TensorCore holds of its obligations before the SparseCore call: the start signals owed, every wait recorded
    so far at the lowest level. -/
abbrev owing (d : Dev nD) : sProp (𝕄 F) :=
  iprop(∃ W, ⌜(K (F := F)).WBelow (SparseCore.T d) W 0⌝ ∗ owes (SparseCore.T d) ((K (F := F)).Otc d 0) W)

/-- The three arrays of the region. -/
abbrev three (d : Dev nD) (r : S8192x128.Idx → F .f32) : sProp (𝕄 F) :=
  iprop((xLoc d ↦{fullShare} X d) ∗ (hLoc d ↦{fullShare} H d) ∗ (rLoc d ↦{fullShare} r))

theorem arrays_three (d : Dev nD) (G) :
    ((dat X H R d).arrays G : sProp (𝕄 F)) = iprop((xLoc d ↦{fullShare} G 0) ∗ (hLoc d ↦{fullShare} G 1) ∗ (rLoc d ↦{fullShare} G 2)) := by
  unfold Dat.arrays
  rw [bigSep_W0, (arr_whole0 0).set_eq_univ, (arr_whole0 1).set_eq_univ, (arr_whole0 2).set_eq_univ]
  rfl

theorem owing_of (d : Dev nD) (t) : (dat X H R d).owesAt none t ⊢ (owing d : sProp (𝕄 F)) := by
  unfold Dat.owesAt Pipeline.owesWithin
  iintro ⟨%W, %hW, HO⟩
  iexists W
  isplitr; swap; · iexact HO
  ipureintro
  intro p hp
  rcases hW hp with h | ⟨w, s, h⟩
  · exact h
  · rw [h]; exact le_rfl

theorem of_owing (d : Dev nD) (t) : (owing d : sProp (𝕄 F)) ⊢ (dat X H R d).owesAt none t := by
  unfold Dat.owesAt Pipeline.owesWithin
  iintro ⟨%W, %hW, HO⟩
  iexists W
  isplitr; swap; · iexact HO
  ipureintro
  exact fun p hp => Or.inl (hW p hp)

theorem Otc_none (d : Dev nD) (g) : (K (F := F)).Otc d 0 g none = 0 := by
  rw [SparseCore.Cfg.Otc_zero]
  simp [SparseCore.Cfg.OtcAt, Finset.sum_apply, Finsupp.finset_sum_apply, tallyAt_apply]

set_option backward.isDefEq.respectTransparency.types false in
/-- The region, entered from its three arrays and the obligations, left with the result's array as `mxuEnd` has it. -/
def reg : Pipeline.RegionSeg (pcfgs (F := F)) adm (pdats X H R) none defs₀ 𝒱₀ (K (F := F)).L (K (F := F)).lev 0 where
  win := winFacts0.to₀
  block_pos := block_pos0
  stage_whole := stage_whole0
  K := PEmpty
  osem k := k.elim
  ho := Pipeline.OwnSemFacts.none _
  hbody d := (body_obligation X H R d).loose
  hwaits d := Pipeline.cellsWaits_intro _ _ _ _ _ fun _ _ _ => (K (F := F)).mayWait_none _ (Otc_none d)
  pre d := iprop(three X H d (R d) ∗ owing d)
  post d := iprop(three X H d (mxuEnd (X d) (H d) (R d)) ∗ owing d)
  X _ := BI.emp
  Y _ := BI.emp
  Z _ := BI.emp
  hentry d := by
    rw [Pipeline.ownSems0_none, Pipeline.prefHeld_of_none _ rfl, show pdats X H R 0 d = dat X H R d from rfl, arrays_three]
    iintro ⟨⟨Ha, HO⟩, -, -⟩
    imodintro
    isplitl [Ha]; · iexact Ha
    isplitr; · iempintro
    isplitl [HO]; · iapply (of_owing X H R d 0); iexact HO
    isplitr <;> iempintro
  hin d := by
    rw [show (pdats X H R 0 d).Φ 0 = (BI.emp : sProp (𝕄 F)) from rfl]
    exact sep_elim_left
  hout d := by
    rw [Pipeline.ownSems0_none]
    refine BIBase.Entails.trans ?_ (sep_mono .rfl (sep_mono .rfl (Entails.of_eq (scopedRest0_eq d).symm)))
    iintro H
    isplitr; · iempintro
    isplitr <;> iempintro
  hexit d := by
    rw [show pdats X H R 0 d = dat X H R d from rfl, arrays_three]
    iintro ⟨Ha, HO, -, -⟩
    imodintro
    isplitl [Ha]
    · iapply (Entails.of_eq (congr (congrArg BI.sep (congrArg _ (final_x X H R d))) (congr (congrArg BI.sep (congrArg _ (final_h X H R d))) (congrArg _ (final_r X H R d))))) $$ Ha
    iapply (owing_of X H R d _); iexact HO

/-- The pipeline's own ghost state on device `d`. -/
abbrev ghost (d : Dev nD) : sProp (𝕄 F) :=
  iprop(Pipeline.cellsGhost (Pipeline.pin (pcfgs (F := F)) adm) EP 0 d ∗ Pipeline.toksInit (Pipeline.pin (pcfgs (F := F)) adm) EP 0 d)

theorem pin_inj : Function.Injective (Pipeline.cellOf (nD := nD) (τ := τ) (Pipeline.pin (pcfgs (F := F)) adm)) := cellOf_inj

/-- The call of the pipeline inside its own program. -/
abbrev call : Prog (TpuEff nD τ sig (Elt F) (ΛP (F := F)) .tc) PUnit := .op (.customCall (Pipeline.entry 0) ()) fun x => .ret x

/-- What the region leaves, and the boundary. -/
abbrev left (d : Dev nD) : sProp (𝕄 F) := iprop(boundary (SparseCore.T d) ∗ three X H d (mxuEnd (X d) (H d) (R d)) ∗ owing d)

theorem region_inner [∀ e, Nonempty (Elt F e)] (d : Dev nD) :
    iprop(boundary (SparseCore.T d) ∗ three X H d (R d) ∗ owing d ∗ levAts (K (F := F)).L (K (F := F)).lev ∗ ghost d)
      ⊢ wp Idealize.ShloMosaic.frame (wpE (D (F := F)) 𝒱 (SparseCore.T d) none) Set.univ call fun _ => left X H R d := by
  have h := Pipeline.RegionSeg.wp (pcfgs (F := F)) adm (pdats X H R) none pin_inj EP defs₀ 𝒱₀ (K (F := F)).L (K (F := F)).lev (reg X H R) d none
    (fun u hu => absurd hu (by simp)) (fun x => .ret x) (fun _ => left X H R d)
  rw [show (reg X H R).pre d = iprop(three X H d (R d) ∗ owing d) from rfl,
    show (reg X H R).post d = iprop(three X H d (mxuEnd (X d) (H d) (R d)) ∗ owing d) from rfl] at h
  refine BIBase.Entails.trans ?_ h
  iintro ⟨Hb, H3, HO, Hl, Hc, Ht⟩
  isplitr
  · iintro ⟨Hb, H3, HO⟩
    rw [wp_ret]
    imodintro
    isplitl [Hb]; · iexact Hb
    isplitl [H3] <;> iassumption
  isplitl [Hb]; · iexact Hb
  isplitl [H3 HO]; · isplitl [H3] <;> iassumption
  isplitl [Hl]; · iexact Hl
  isplitl [Hc] <;> iassumption

/-- The TensorCore's kernel call in @main: from the boundary, the three arrays, the obligations and the pipeline's ghost
    state to the boundary, the arrays with the result's pooled in its first 6144 rows, and the obligations. -/
theorem region_run [∀ e, Nonempty (Elt F e)] (d : Dev nD) :
    iprop(boundary (SparseCore.T d) ∗ three X H d (R d) ∗ owing d ∗ levAts (K (F := F)).L (K (F := F)).lev ∗ ghost d)
      ⊢ wp Idealize.ShloMosaic.frame (wpE ((K (F := F)).defs D) 𝒱 (SparseCore.T d) none) Set.univ
          (Prog.lift (.customCall (SparseCore.inner (Pipeline.entry 0)) ()))
          fun _ => left X H R d :=
  (region_inner X H R d).trans ((K (F := F)).wp_liftProg D 𝒱 (SparseCore.T d) Set.univ none call _)

end Region

end Cert.Proof.Pool

end
-- ==== Proof.Main.lean ====
module

public import proofs.«01_k».proof.Proof.Region

@[expose] public section

noncomputable section

/-! # The whole program's run

@main's host operations before the two kernels, the TensorCore's call, the SparseCores' call, and the
host operations after them, over any float values. The device's buffers are held as one set throughout;
each call borrows the arrays it uses. -/

namespace Cert.Proof.Pool

open Cert.KernelIdeal Cert.KernelIdeal.Gen

open Idealize.ShloMosaic Idealize.ShloMosaic.ValueIdx
open Idealize.ShloMosaic.SparseCore.Cfg (HIx Pay)
open Idealize.ShloMosaic.Tactic
open Idealize.ShloMosaic.StableHlo (held after)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## @main in four parts -/

/-- The host operations before the calls. -/
def hostPre : List (HloOp τ sig (Elt F)) :=
  [StableHlo.reshape main_arg1 main_v0 (rfl : (.i32 : EltTy) = .i32) shapeCasts_S512x9_S64x8x9,
   StableHlo.unary main_v0 main_v1 ((Host.slice S32x4x9 ![0, 0, 0] ![2, 1, 1] · slicesBy_S64x8x9_S32x4x9_0s2_0s1_0s1) : (⟨S64x8x9, .i32⟩ : BufTy).Contents (Elt F) → (⟨S32x4x9, .i32⟩ : BufTy).Contents (Elt F)),
   StableHlo.reshape main_v1 main_v2 (rfl : (.i32 : EltTy) = .i32) shapeCasts_S32x4x9_S128x9,
   StableHlo.unary main_v2 main_v3 ((transpose S9x128 [1, 0] · transposes_S128x9_S9x128_1_0) : (⟨S128x9, .i32⟩ : BufTy).Contents (Elt F) → (⟨S9x128, .i32⟩ : BufTy).Contents (Elt F)),
   StableHlo.reshape main_arg0 main_v4 (rfl : (.f32 : EltTy) = .f32) shapeCasts_S32x256x512_S8192x512,
   StableHlo.nullary main_v5 (iotaInDim S512x9x128 32 0),
   StableHlo.unary main_v3 main_v6 (broadcastInDim S1x9x128 ![1, 2] bcast_S9x128_S1x9x128_1_2 : (⟨S9x128, .i32⟩ : BufTy).Contents (Elt F) → (⟨S1x9x128, .i32⟩ : BufTy).Contents (Elt F)),
   StableHlo.unary main_v6 main_v7 (broadcastInDim S512x9x128 ![0, 1, 2] bcast_S1x9x128_S512x9x128_0_1_2 : (⟨S1x9x128, .i32⟩ : BufTy).Contents (Elt F) → (⟨S512x9x128, .i32⟩ : BufTy).Contents (Elt F)),
   StableHlo.binary main_v5 main_v7 main_v8 (cmpi .eq : (⟨S512x9x128, .i32⟩ : BufTy).Contents (Elt F) → (⟨S512x9x128, .i32⟩ : BufTy).Contents (Elt F) → (⟨S512x9x128, .i1⟩ : BufTy).Contents (Elt F)),
   StableHlo.unary main_v8 main_v9 (uitofp .bf16 : (⟨S512x9x128, .i1⟩ : BufTy).Contents (Elt F) → (⟨S512x9x128, .bf16⟩ : BufTy).Contents (Elt F)),
   StableHlo.reshape main_v9 main_v10 (rfl : (.bf16 : EltTy) = .bf16) shapeCasts_S512x9x128_S512x1152]

/-- The host operations after the calls. -/
def hostPost : List (HloOp τ sig (Elt F)) :=
  [StableHlo.nullary main_c (constantI S_ 32 6144#32),
   StableHlo.nullary main_c_0 (constantI S_ 32 0#32),
   StableHlo.binaryIndexed main_v11 main_v12 ![main_c, main_c_0] ⟨S_, .i32⟩ main_v13 ((fun x u i => Host.dynamicUpdateSlice x u (fun k => (i k (Shape.Idx.first h_S_)).toInt) updateFits_S8192x128_S2048x128) : (⟨S8192x128, .f32⟩ : BufTy).Contents (Elt F) → (⟨S2048x128, .f32⟩ : BufTy).Contents (Elt F) → (Fin 2 → (⟨S_, .i32⟩ : BufTy).Contents (Elt F)) → (⟨S8192x128, .f32⟩ : BufTy).Contents (Elt F)) (hix := fun k => by fin_cases k <;> exact ⟨by decide, rfl⟩),
   StableHlo.reshape main_v13 main_v14 (rfl : (.f32 : EltTy) = .f32) shapeCasts_S8192x128_S32x256x128]

/-- @main: the host operations, the TensorCore's call, the SparseCores' call, the host operations. -/
theorem main_eq (d : Dev nD) :
    (main (F := F) d) = (StableHlo.seq hostPre >>= fun _ =>
      (Prog.lift (.customCall (SparseCore.inner (Pipeline.entry 0)) ())) >>= fun _ =>
      sc.run d 0 >>= fun _ => StableHlo.seq hostPost >>= fun u => pure u) := by
  rw [hostPre, hostPost]
  rfl

/-! ## The buffers -/

abbrev ref (b : Ref sig .tc) : DevRef τ sig := Proc.devRef .tc b

variable (m : (ℓ : Loc nD τ sig) → Buf (Elt F) ℓ) (ρ : Dev nD → PrngReg)

/-- The buffers when the first call starts. -/
def vPre (d : Dev nD) : Valuation τ sig (Elt F) := after hostPre (fun b => m (d, b))

/-- The input's rows, the neighbours, their one-hot matrix, and what the TensorCore's result array holds before the calls. -/
def rowsX (d : Dev nD) : S8192x512.Idx → F .f32 := vPre m d (ref main_v4)
def rowsN (d : Dev nD) : S9x128.Idx → BitVec 32 := vPre m d (ref main_v3)
def rowsH (d : Dev nD) : S512x1152.Idx → F .bf16 := vPre m d (ref main_v10)
def rowsR (d : Dev nD) : S8192x128.Idx → F .f32 := vPre m d (ref main_v11)

/-- The buffers after both calls: the TensorCore's rows and the SparseCores' rows written. -/
def vMid (d : Dev nD) : Valuation τ sig (Elt F) :=
  Function.update (Function.update (vPre m d) (ref main_v11) (mxuEnd (rowsX m d) (rowsH m d) (rowsR m d)))
    (ref main_v12) (scOut (rowsX m d) (rowsN m d))

/-- The buffers at the end. -/
def vEnd (d : Dev nD) : Valuation τ sig (Elt F) := after hostPost (vMid m d)

theorem pre_sub : ∀ op ∈ (hostPre (F := F)), op.bufs ⊆ Pipeline.ucRefs τ sig := by
  intro op hop
  refine Pipeline.sub_ucRefs op ?_
  revert op
  rw [← List.forall_iff_forall_mem]
  simp only [hostPre, List.Forall, StableHlo.reshape_bufs_sub, StableHlo.unary_bufs_sub, StableHlo.binary_bufs_sub,
    StableHlo.nullary_bufs_sub, and_self]

theorem post_sub : ∀ op ∈ (hostPost (F := F)), op.bufs ⊆ Pipeline.ucRefs τ sig := by
  intro op hop
  refine Pipeline.sub_ucRefs op ?_
  revert op
  rw [← List.forall_iff_forall_mem]
  simp only [hostPost, List.Forall, StableHlo.reshape_bufs_sub, StableHlo.binaryIndexed_bufs_sub,
    StableHlo.nullary_bufs_sub, and_self]

theorem pre_fresh : ∀ op ∈ (hostPre (F := F)), op.fresh = ∅ :=
  List.forall_iff_forall_mem.mp (StableHlo.forall_fresh_of_map rfl)
theorem post_fresh : ∀ op ∈ (hostPost (F := F)), op.fresh = ∅ :=
  List.forall_iff_forall_mem.mp (StableHlo.forall_fresh_of_map rfl)

/-- The arrays the two calls use. -/
def lent : Finset (DevRef τ sig) := {ref main_v4, ref main_v3, ref main_v10, ref main_v11, ref main_v12}

theorem lent_sub : lent ⊆ Pipeline.ucRefs τ sig := by decide

theorem held_lent (d : Dev nD) (W : Valuation τ sig (Elt F)) :
    (held (SparseCore.T d) lent W : sProp (𝕄 F))
      = iprop((xLoc d ↦{fullShare} W (ref main_v4)) ∗ (nLoc d ↦{fullShare} W (ref main_v3)) ∗ (hLoc d ↦{fullShare} W (ref main_v10))
          ∗ (rLoc d ↦{fullShare} W (ref main_v11)) ∗ oLoc d ↦{fullShare} W (ref main_v12)) := by
  unfold held lent
  rw [SparseCore.bigSep_insert' (by decide), SparseCore.bigSep_insert' (by decide), SparseCore.bigSep_insert' (by decide),
    SparseCore.bigSep_insert' (by decide), bigSep_singleton]

theorem mid_v11 (d : Dev nD) : vMid m d (ref main_v11) = mxuEnd (rowsX m d) (rowsH m d) (rowsR m d) :=
  (Function.update_of_ne (show ref main_v11 ≠ ref main_v12 by decide) _ _).trans (Function.update_self _ _ _)
theorem mid_v12 (d : Dev nD) : vMid m d (ref main_v12) = scOut (rowsX m d) (rowsN m d) := Function.update_self _ _ _
theorem mid_of_ne (d : Dev nD) (b : DevRef τ sig) (h1 : b ≠ ref main_v11) (h2 : b ≠ ref main_v12) : vMid m d b = vPre m d b :=
  (Function.update_of_ne h2 _ _).trans (Function.update_of_ne h1 _ _)

/-- The set of all buffers is the lent ones and the rest, which the calls leave as they were. -/
theorem held_pre (d : Dev nD) :
    (held (SparseCore.T d) (Pipeline.ucRefs τ sig) (vPre m d) : sProp (𝕄 F))
      = iprop(((xLoc d ↦{fullShare} rowsX m d) ∗ (nLoc d ↦{fullShare} rowsN m d) ∗ (hLoc d ↦{fullShare} rowsH m d)
          ∗ (rLoc d ↦{fullShare} rowsR m d) ∗ oLoc d ↦{fullShare} vPre m d (ref main_v12))
          ∗ held (SparseCore.T d) (Pipeline.ucRefs τ sig \ lent) (vPre m d)) := by
  rw [StableHlo.held_sub_split (SparseCore.T d) lent_sub, held_lent]; rfl

theorem held_mid (d : Dev nD) :
    (held (SparseCore.T d) (Pipeline.ucRefs τ sig) (vMid m d) : sProp (𝕄 F))
      = iprop(((xLoc d ↦{fullShare} rowsX m d) ∗ (nLoc d ↦{fullShare} rowsN m d) ∗ (hLoc d ↦{fullShare} rowsH m d)
          ∗ (rLoc d ↦{fullShare} mxuEnd (rowsX m d) (rowsH m d) (rowsR m d)) ∗ oLoc d ↦{fullShare} scOut (rowsX m d) (rowsN m d))
          ∗ held (SparseCore.T d) (Pipeline.ucRefs τ sig \ lent) (vPre m d)) := by
  rw [StableHlo.held_sub_split (SparseCore.T d) lent_sub, held_lent, mid_v11, mid_v12,
    mid_of_ne m d (ref main_v4) (by decide) (by decide), mid_of_ne m d (ref main_v3) (by decide) (by decide),
    mid_of_ne m d (ref main_v10) (by decide) (by decide),
    StableHlo.held_congr (SparseCore.T d) (V := vMid m d) (V' := vPre m d) fun b hb =>
      mid_of_ne m d b (fun h => (Finset.mem_sdiff.mp hb).2 (h ▸ by decide)) (fun h => (Finset.mem_sdiff.mp hb).2 (h ▸ by decide))]
  rfl

/-! ## The run of @main on one device -/

abbrev Pm : (K (F := F)).Pay (nD := nD) (Val := Elt F) (Name := ℕ) (U := UU) := P (rowsX m) (rowsN m)

/-- What @main hands over at the end: every buffer at its final contents. -/
def FIN (d : Dev nD) : sProp (𝕄 F) := held (SparseCore.T d) (Pipeline.ucRefs τ sig) (vEnd m d)

/-- The SparseCores' call takes the three arrays it uses. -/
theorem start_eq (d : Dev nD) :
    (bigSep Finset.univ fun c : Fin ((K (F := F)).nCore 0) => (Pm m).st 0 d c)
      = (bigSep Finset.univ fun c : Fin 2 => bigSep Finset.univ fun i : Fin 16 => goAt (rowsX m) (rowsN m) d c i : sProp (𝕄 F)) := rfl
theorem done_eq (d : Dev nD) :
    (bigSep Finset.univ fun c : Fin ((K (F := F)).nCore 0) => (Pm m).dn 0 d c)
      = (bigSep Finset.univ fun c : Fin 2 => bigSep Finset.univ fun i : Fin 16 => tdAt (rowsX m) (rowsN m) d c i : sProp (𝕄 F)) := rfl

/-- Before any SparseCore call the TensorCore's handshake state is what it owes and the rest. -/
def restSt (d : Dev nD) : sProp (𝕄 F) := iprop(owing (F := F) d -∗ (K (F := F)).tcSt EH d 0)

theorem open_tcSt (d : Dev nD) : ((K (F := F)).tcSt EH d 0 : sProp (𝕄 F)) ⊢ iprop(owing (F := F) d ∗ restSt (F := F) d) := by
  unfold restSt SparseCore.Cfg.tcSt
  iintro ⟨HO, Hrest⟩
  isplitl [HO]; · iexact HO
  iintro HO
  isplitl [HO]; · iexact HO
  iexact Hrest

set_option backward.isDefEq.respectTransparency.types false in
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show unscopedBufs d (fun b => m ((SparseCore.T d).loc b))
        = (held (SparseCore.T d) (Pipeline.ucRefs τ sig) (fun b => m (d, b)) : sProp (𝕄 F))
      from Pipeline.unscopedBufs_held (Ix := HIx 1) (Name := ℕ) (U := UU) (Lvl := ℕ) d (fun b => m (d, b))]
  iintro ⟨#Hctx, Hst, ⟨Hb, Hheld, Hts, -⟩, HG⟩
  iapply (StableHlo.wp_seq 𝒱 none Set.univ d (Pipeline.ucRefs τ sig) _ hostPre pre_sub pre_fresh (fun b => m (d, b))) $$ [Hb Hheld]
  · isplitl [Hb]; · iexact Hb
    iexact Hheld
  iintro ⟨Hb, Hheld⟩
  ihave Hh := (show (held (d.tc : Thread nD τ) (Pipeline.ucRefs τ sig) (after hostPre fun b => m (d, b)) : sProp (𝕄 F)) ⊢ _
    from Entails.of_eq (held_pre (F := F) m d)) $$ Hheld
  icases Hh with ⟨⟨Hx, Hn, Hh, Hr, Ho⟩, Hrest⟩
  -- the TensorCore's call
  ihave Hs := (open_tcSt (F := F) d) $$ Hst
  icases Hs with ⟨HO, Hst⟩
  ihave Hlev := (SparseCore.Cfg.ctx_levAts κ) $$ Hctx
  rw [wp_bind]
  ihave Hcall := (region_run (rowsX m) (rowsH m) (rowsR m) d) $$ [Hb Hx Hh Hr HO Hlev HG]
  · unfold three
    isplitl [Hb]; · iexact Hb
    isplitl [Hx Hh Hr]
    · isplitl [Hx]; · iexact Hx
      isplitl [Hh]; · iexact Hh
      iexact Hr
    isplitl [HO]; · iexact HO
    isplitl [Hlev]; · iexact Hlev
    iexact HG
  iapply (wp_wand_r Idealize.ShloMosaic.frame (wpE ((K (F := F)).defs (D (F := F))) 𝒱 (SparseCore.T d) none) Set.univ) $$ [Hcall Hst Hn Ho Hrest Hts]
  isplitl [Hcall]; · iexact Hcall
  iintro %_ Hl
  unfold left three
  icases Hl with ⟨Hb, ⟨Hx, Hh, Hr⟩, HO⟩
  unfold restSt
  ihave Hst := Hst $$ HO
  -- the SparseCores' call
  rw [wp_bind]
  iapply ((K (F := F)).wp_run (D (F := F)) 𝒱 (EH := EH) (P := Pm m) κ d 0) $$ [Hst Hx Hn Ho Hb Hh Hr Hrest Hts]
  isplitr; · iexact Hctx
  isplitl [Hst]; · iexact Hst
  isplitl [Hx Hn Ho]
  · rw [start_eq]
    iapply (deal (rowsX m) (rowsN m) d _) $$ [Hx Hn Ho]
    isplitl [Hx]; · iexact Hx
    isplitl [Hn]; · iexact Hn
    iexact Ho
  iintro ⟨Hst, Hdn⟩
  ihave Hdn' := (Entails.of_eq (done_eq (F := F) m d)) $$ Hdn
  ihave Hd := (collect (rowsX m) (rowsN m) d) $$ Hdn'
  icases Hd with ⟨Hx, Hn, Ho⟩
  -- the host operations after the calls
  iapply (StableHlo.wp_seq 𝒱 none Set.univ d (Pipeline.ucRefs τ sig) _ hostPost post_sub post_fresh (vMid m d)) $$ [Hb Hx Hn Hh Hr Ho Hrest]
  · isplitl [Hb]; · iexact Hb
    iapply (Entails.of_eq (held_mid (F := F) m d).symm) $$ [Hx Hn Hh Hr Ho Hrest]
    isplitr [Hrest]
    · isplitl [Hx]; · iexact Hx
      isplitl [Hn]; · iexact Hn
      isplitl [Hh]; · iexact Hh
      isplitl [Hr]; · iexact Hr
      iexact Ho
    · iexact Hrest
  iintro ⟨Hb, Hheld⟩
  rw [wp_pure]; imodintro
  isplitl [Hst]; · iexact Hst
  isplitl [Hheld]; · unfold FIN vEnd; iexact Hheld
  isplitl [Hb]; · iexact Hb
  iexact Hts

/-- What every buffer holds in a final state. -/
def fq (d : Dev nD) (s' : Phys nD τ sig (Elt F)) : Prop :=
  ∀ b ∈ Pipeline.ucRefs τ sig, s'.mem.mem (d, b) = vEnd m d b

theorem hfin (d : Dev nD) (s' : Phys nD τ sig (Elt F)) : iprop(FIN m d ∗ SI s') ⊢ (⌜fq m d s'⌝ : sProp (𝕄 F)) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-! ## The launch -/

/-- The launch's ghost element: the handshakes' rounds and the pipeline's. -/
def u₀ : UU :=
  (Rounds.initOf (K (F := F)).hsCells (K (F := F)).hsToks,
    (Rounds.initOf (Pipeline.cells (Pipeline.pin (pcfgs (F := F)) adm) pin_inj) (Pipeline.launchToks (Pipeline.pin (pcfgs (F := F)) adm) pin_inj), 1))

/-- The right half of the ghost element gives the pipeline's part. -/
theorem own_right (u : UP) : (BI.own ((embR : Emb (UP × Counters) (𝕄 F)) (u, (1 : Counters))) : sProp (𝕄 F))
    ⊢ iprop(BI.own ((EP : Emb UP (𝕄 F)) u) ∗ BI.own (((Emb.inr : Emb Counters (UP × Counters)).trans (embR : Emb (UP × Counters) (𝕄 F))) (1 : Counters))) :=
  own_pair_emb (embR : Emb (UP × Counters) (𝕄 F)) u (1 : Counters)

/-- Nothing, for every thread and call, is nothing. -/
theorem emp_threads : (bigSep Finset.univ fun _ : Thread nD τ => bigSep Finset.univ fun _ : Fin 1 => (iprop(emp) : sProp (𝕄 F))) = iprop(emp) := by
  have h : ∀ {I : Type} (s : Finset I), (bigSep s fun _ => (iprop(emp) : sProp (𝕄 F))) = iprop(emp) := fun s => bigSep_emp_const s
  rw [bigSep_congr fun _ _ => h _, h]

/-- The launch element is the handshakes' rounds, the pipeline's ghost for each device, and nothing for the calls themselves. -/
theorem hu₀ : (ownU (u₀ (F := F)) : sProp (𝕄 F))
    ⊢ |={Set.univ}=> iprop(BI.own (EH (Rounds.initOf (K (F := F)).hsCells (K (F := F)).hsToks))
        ∗ (bigSep Finset.univ fun d : Dev nD => ghost (F := F) d)
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave HP := (own_right _) $$ HR
  icases HP with ⟨HP, -⟩
  imod (Pipeline.fund_ghost (Pipeline.pin (pcfgs (F := F)) adm) EP pin_inj) $$ HP with ⟨HC, HT⟩
  imodintro
  isplitl [HH]; · iexact HH
  isplitl [HC HT]
  · unfold ghost
    rw [bigSep_sep']
    simp only [bigSep_univ_of_subsingleton (0 : Fin 1)]
    isplitl [HC]; · iexact HC
    iexact HT
  rw [show (bigSep Finset.univ fun thr : Thread nD τ => bigSep Finset.univ fun q : Fin 1 => (Pm m).x q thr)
      = (bigSep Finset.univ fun _ : Thread nD τ => bigSep Finset.univ fun _ : Fin 1 => (iprop(emp) : sProp (𝕄 F))) from rfl,
    emp_threads]
  iempintro

/-- Every final state of the program holds each of the device's buffers at its final contents, and every semaphore at zero. -/
theorem run_main [∀ e, Nonempty (Elt F e)] (hN : ∀ d, InRange (rowsN m d)) :
    θ_run (Cert.KernelIdeal.defs (F := F)) (Cert.KernelIdeal.threads (F := F)) ⟨m, fun _ => 0, ρ⟩
      (fun r => (∀ (d : Dev nD), ∀ b ∈ Pipeline.ucRefs τ sig, r.2.mem (d, b) = vEnd m d b) ∧ r.2.sem = fun _ => 0) :=
  SparseCore.Cfg.θ_run_sc_quiescent (K := K (F := F)) (D := D (F := F)) (𝒱 := 𝒱) (EH := EH) (P := Pm m) (A := ∅) scFacts v₀
    (fun q hq => match q with | 0 => nomatch hq)
    (fun q _ => match q with | 0 => tileObl (rowsX m) (rowsN m) hN)
    (fun q _ => match q with | 0 => SparseCore.Cfg.VecSplit.of_plain (vecSplit (rowsX m) (rowsN m)))
    m ρ main (fun d => ghost d) (FIN m) (u₀ (F := F)) (sep_elim_left.trans (hu₀ m)) (hmain m ρ) (fq m) (hfin m) _
    (fun _ h hz => ⟨h, hz⟩)

end Cert.Proof.Pool
-- ==== Proof.Host.lean ====
module

public import proofs.«01_k».proof.Proof.Main
public import proofs.«01_k».proof.Defs
public import proofs.«01_k».proof.Proof.Gen.Kernel
public import proofs.«01_k».proof.Proof.Gen.Pre_in_range
public import Idealize.ShloMosaic.Lib.ReduceAll

@[expose] public section

noncomputable section

/-! # What the host operations compute

The arrays the two calls are given, read at an index as the arguments; the precondition read as the
neighbours' range; and the arguments unchanged at the end. -/

namespace Cert.Proof.Pool

open Cert.KernelIdeal Cert.KernelIdeal.Gen

open Idealize.ShloMosaic Idealize.ShloMosaic.ValueIdx
open Idealize.ShloMosaic.StableHlo (after)
open Idealize.SL.Sem

variable {F : FTy → Type} [FloatOps F]

variable (m : (ℓ : Loc nD τ sig) → Buf (Elt F) ℓ)

/-- The two arguments. -/
def argX (d : Dev nD) : S32x256x512.Idx → F .f32 := m (d, ref main_arg0)
def argN (d : Dev nD) : S512x9.Idx → BitVec 32 := m (d, ref main_arg1)

theorem rowsX_term (d : Dev nD) : rowsX m d = shapeCast S8192x512 (argX m d) shapeCasts_S32x256x512_S8192x512 := by
  unfold rowsX vPre hostPre
  after_results
  rfl

theorem rowsN_term (d : Dev nD) : rowsN m d = transpose S9x128 [1, 0]
    (shapeCast S128x9 (Host.slice S32x4x9 ![0, 0, 0] ![2, 1, 1] (shapeCast S64x8x9 (argN m d) shapeCasts_S512x9_S64x8x9)
      slicesBy_S64x8x9_S32x4x9_0s2_0s1_0s1) shapeCasts_S32x4x9_S128x9) transposes_S128x9_S9x128_1_0 := by
  unfold rowsN vPre hostPre
  after_results
  rfl

theorem rowsH_term (d : Dev nD) : rowsH m d = shapeCast S512x1152 (uitofp .bf16 (cmpi .eq (iotaInDim S512x9x128 32 0)
    (broadcastInDim S512x9x128 ![0, 1, 2] bcast_S1x9x128_S512x9x128_0_1_2 (broadcastInDim S1x9x128 ![1, 2] bcast_S9x128_S1x9x128_1_2 (rowsN m d)))))
    shapeCasts_S512x9x128_S512x1152 := by
  rw [rowsN_term]
  unfold rowsH vPre hostPre
  after_results
  rfl

theorem end_arg0 (d : Dev nD) : vEnd m d (ref main_arg0) = argX m d := by
  unfold vEnd hostPost
  after_results
  rw [mid_of_ne m d (ref main_arg0) (by decide) (by decide)]
  unfold vPre hostPre
  after_results
  rfl

theorem end_arg1 (d : Dev nD) : vEnd m d (ref main_arg1) = argN m d := by
  unfold vEnd hostPost
  after_results
  rw [mid_of_ne m d (ref main_arg1) (by decide) (by decide)]
  unfold vPre hostPre
  after_results
  rfl

/-- The precondition, over any float values: every neighbour is a position of the input's last axis. -/
theorem lt_of_in_range (x : FVec F S32x256x512 .f32) (nb : IVec S512x9 32)
    (h : Cert.Pre_in_range.fn (F := F) x nb = fun _ => 1#1) (i : S512x9.Idx) : (nb i).toNat < 512 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have : Subsingleton Cert.Pre_in_range.S_.Idx := ⟨fun a b => funext fun k => k.elim0⟩
  have e := Host.reduce_andi_all _ _ _ _ (fun k => k.elim0) (congrFun h fun k => k.elim0) i
  simp only [andi, cmpi, broadcastInDim, constantI, IntOp.cmpi, andi_ofBool, ofBool_eq_one, Bool.and_eq_true, BitVec.sle_eq_decide,
    BitVec.slt_eq_decide, decide_eq_true_eq, BitVec.toInt_eq_toNat_cond, BitVec.toNat_ofNat, Nat.reducePow, Nat.reduceMod] at e
  omega

/-- Then the neighbours the calls read are in range too. -/
theorem rowsN_inRange (h : ∀ d i, (argN m d i).toNat < 512) (d : Dev nD) : InRange (rowsN m d) := by
  intro y
  rw [rowsN_term]
  exact h d _

/-- The run, read at the arguments and at the result. -/
theorem run_args [∀ e, Nonempty (Elt F e)] (ρ : Dev nD → PrngReg) (h : ∀ d i, (argN m d i).toNat < 512) :
    θ_run (Cert.KernelIdeal.defs (F := F)) (Cert.KernelIdeal.threads (F := F)) ⟨m, fun _ => 0, ρ⟩
      (fun r => (∀ d : Dev nD, r.2.mem ((d.tc : Thread nD τ).loc main_v14) = vEnd m d (ref main_v14)
        ∧ r.2.mem ((d.tc : Thread nD τ).loc main_arg0) = m ((d.tc : Thread nD τ).loc main_arg0)
        ∧ r.2.mem ((d.tc : Thread nD τ).loc main_arg1) = m ((d.tc : Thread nD τ).loc main_arg1)) ∧ r.2.sem = fun _ => 0) :=
  (θ_run Cert.KernelIdeal.defs _ _).mono
    (fun _ hr => ⟨fun d => ⟨hr.1 d (ref main_v14) (by decide), (hr.1 d (ref main_arg0) (by decide)).trans (end_arg0 m d),
      (hr.1 d (ref main_arg1) (by decide)).trans (end_arg1 m d)⟩, hr.2⟩)
    (run_main m ρ (rowsN_inRange m h))

/-- The program, over any float values, runs to its end, faults nowhere, leaves its arguments as they were, and
every semaphore at zero. -/
theorem run_frame [∀ e, Nonempty (Elt F e)] (ρ : Dev nD → PrngReg) (h : ∀ d i, (argN m d i).toNat < 512) :
    θ_run (Cert.KernelIdeal.defs (F := F)) (Cert.KernelIdeal.threads (F := F)) ⟨m, fun _ => 0, ρ⟩
      (fun r => (∀ d : Dev nD, r.2.mem ((d.tc : Thread nD τ).loc main_arg0) = m ((d.tc : Thread nD τ).loc main_arg0)
        ∧ r.2.mem ((d.tc : Thread nD τ).loc main_arg1) = m ((d.tc : Thread nD τ).loc main_arg1)) ∧ r.2.sem = fun _ => 0) :=
  (θ_run Cert.KernelIdeal.defs _ _).mono (fun _ h => ⟨fun c => (h.1 c).2, h.2⟩) (run_args m ρ h)

/-- The program as it is and its reading over the extended reals are one text: their kernels' bodies are equal. -/
theorem bodies_eq : Cert.Kernel.defs₀ (F := F) = Cert.KernelIdeal.defs₀ (F := F) := by
  funext p ℓ a
  match p, ℓ, a with
  | .tc, 0, (t, s) => rfl
  | .tc, 1, _ => rfl
  | .scVector c s, 1, _ => rfl
  | .scVector c s, 0, _ => rfl
  | .scScalar c, 0, _ => rfl
  | .scScalar c, 1, _ => rfl

/-- So their body tables are equal. -/
theorem tables_eq : Cert.Kernel.defs (F := F) = Cert.KernelIdeal.defs (F := F) := by
  unfold Cert.Kernel.defs Cert.KernelIdeal.defs
  rw [bodies_eq]
  rfl

/-- So the program as it is runs the same. -/
theorem frame_kernel : Cert.quiescent_Kernel := fun m ρ hpre => by
  rw [tables_eq]
  exact run_frame (F := Bits) m ρ fun d => lt_of_in_range _ _ (hpre d)

/-- And so does its reading over the extended reals. -/
theorem frame_ideal : Cert.quiescent_KernelIdeal := fun m ρ hpre =>
  run_frame (F := Ideal) m ρ fun d => lt_of_in_range _ _ (hpre d)

end Cert.Proof.Pool
-- ==== Proof.RefRun.lean ====
module

public import proofs.«01_k».proof.Defs
public import proofs.«01_k».proof.Proof.Gen.ReferenceIdeal.Run
public import proofs.«01_k».proof.Proof.Gen.Pre_in_range
public import Idealize.ShloMosaic.Lib.Quiescent

@[expose] public section

noncomputable section

/-! # The reference's run -/

namespace Cert.Proof.Pool

open Idealize.ShloMosaic Idealize.SL.Sem

/-- The reference runs to its end from any memory, faults nowhere, leaves its arguments as they were, and every
semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In particular from a memory whose neighbours are in range. -/
theorem frame_reference_in_range : Cert.quiescent_ReferenceIdeal_pre_in_range := fun m ρ _ => frame_reference m ρ trivial

end Cert.Proof.Pool
-- ==== Proof.KernelValue.lean ====
module

public import proofs.«01_k».proof.Proof.Host
public import Idealize.ShloMosaic.Lib.Pointwise
public import Idealize.ShloMosaic.Lib.Pointwise.IndexBridge
public import Idealize.ShloMosaic.Lib.WordCmp

@[expose] public section

set_option maxRecDepth 16384

noncomputable section

/-! # What the kernel computes over the extended reals -/

namespace Cert.Proof.Pool

open Cert.KernelIdeal Cert.KernelIdeal.Gen

open Idealize.ShloMosaic

/-- The node that output column `o` keeps: of every sixteen nodes the first four. -/
def kept (o : Fin 128) : Fin 512 := ⟨16 * (o.val / 4) + o.val % 4, by omega⟩

/-- The pooled array: each kept node's largest neighbour. -/
def pooled {F : FTy → Type} [FloatOps F] (x : S32x256x512.Idx → F .f32) (nb : S512x9.Idx → BitVec 32) : S32x256x128.Idx → F .f32 :=
  fun y => max9 fun j => x (ix3 (y 0) (y 1) (⟨(nb (ix2 (kept (y 2)) j)).toNat % 512, Nat.mod_lt _ (by decide)⟩ : Fin 512))

section Words

variable {F : FTy → Type} [FloatOps F] (m : (ℓ : Loc nD τ sig) → Buf (Elt F) ℓ) (d : Dev nD)

/-- Row `R` of the array of rows is row `R % 256` of batch `R / 256`. -/
theorem rowsX_apply (R : Fin 8192) (k : Fin 512) :
    rowsX m d (ix2 R k) = argX m d (ix3 (⟨R.val / 256, by omega⟩ : Fin 32) (⟨R.val % 256, by omega⟩ : Fin 256) k) := by
  rw [rowsX_term]
  pointwise

/-- Neighbour `j` of output column `o` is neighbour `j` of the node that the column keeps. -/
theorem rowsN_apply (j : Fin 9) (o : Fin 128) : rowsN m d (ix2 j o) = argN m d (ix2 (kept o) j) := by
  rw [rowsN_term]
  pointwise [kept]
  exact congrArg (fun q => argN m d (ix2 q j)) (Fin.ext (by dsimp only; omega))

end Words

section Product

variable (m : (ℓ : Loc nD τ sig) → Buf (Elt Ideal) ℓ) (d : Dev nD)

/-- The neighbour, as a number. -/
theorem nbr_eq (nb : S9x128.Idx → BitVec 32) (j : Fin 9) (o : Fin 128) :
    nbr nb j o = (⟨(nb (ix2 j o)).toNat % 512, Nat.mod_lt _ (by decide)⟩ : Fin 512) := by
  rw [ix2_eq_valueIdx]
  rfl

/-- One bit of a one-hot column: 1 at the position that a word in range names, 0 elsewhere. -/
theorem hot (k : Fin 512) (n : BitVec 32) (hn : n.toNat < 512) :
    FloatOps.uitofp (F := Ideal) .bf16 (IntOp.cmpi .eq (BitVec.ofNat 32 k.val) n)
      = if k = (⟨n.toNat % 512, Nat.mod_lt _ (by decide)⟩ : Fin 512) then (1 : EReal) else 0 := by
  have hk := k.isLt
  have e : (k = (⟨n.toNat % 512, Nat.mod_lt _ (by decide)⟩ : Fin 512)) ↔ BitVec.ofNat 32 k.val = n := by
    rw [Fin.ext_iff, ← BitVec.toNat_inj, BitVec.toNat_ofNat]
    dsimp only
    omega
  simp only [e, IntOp.cmpi]
  show (((BitVec.ofBool _).toNat : ℝ) : EReal) = _
  by_cases h : BitVec.ofNat 32 k.val = n
  · simp [h]
  · simp [h]

/-- The one-hot matrices: column `c`, for neighbour `c / 128` of output column `c % 128`, is 1 at that neighbour and
0 elsewhere. -/
theorem rowsH_apply (hN : InRange (rowsN m d)) (k : Fin 512) (c : Fin 1152) : rowsH m d (ix2 k c)
    = if k = nbr (rowsN m d) (⟨c.val / 128, by omega⟩ : Fin 9) (⟨c.val % 128, by omega⟩ : Fin 128) then (1 : EReal) else 0 := by
  rw [rowsH_term]
  pointwise
  rw [nbr_eq]
  exact hot k _ (hN _)

/-- The matrix unit's body: the largest of nine products of a row with a column. -/
theorem pay_apply (x : S2048x512.Idx → EReal) (h : S512x1152.Idx → EReal) (r : Fin 2048) (o : Fin 128) :
    k0_pay1 (F := Ideal) x h (ix2 r o)
      = max9 (F := Ideal) fun j => ∑ k : Fin 512, x (ix2 r k) * h (ix2 k (⟨128 * j.val + o.val, by omega⟩ : Fin 1152)) := by
  pointwise [k0_pay1, max9]
  simp only [← Nat.add_assoc, Nat.reduceAdd, max_assoc]

/-- A row times a one-hot column is the row's element there. -/
theorem oneHot_sum (x : Fin 512 → EReal) (n : Fin 512) : ∑ k : Fin 512, x k * (if k = n then (1 : EReal) else 0) = x n := by
  simp only [mul_ite, mul_one, mul_zero, Finset.sum_ite_eq', Finset.mem_univ, if_true]

/-- The block that holds row `R` has it at `R % 2048`. -/
theorem blockX_apply (x : S8192x512.Idx → EReal) (R : Fin 8192) (k : Fin 512) :
    blockX (F := Ideal) x (⟨R.val / 2048, by omega⟩ : Fin 4) (ix2 (⟨R.val % 2048, by omega⟩ : Fin 2048) k) = x (ix2 R k) := by
  rw [ix2_eq_valueIdx, ix2_eq_valueIdx]
  refine congrArg (fun q : Fin 8192 => x (ValueIdx.ix2 q k)) (Fin.ext ?_)
  show R.val / 2048 * 2048 + R.val % 2048 = R.val
  omega

/-- The rows that the matrix unit pools hold each kept node's largest neighbour. -/
theorem mxuOut_apply (hN : InRange (rowsN m d)) (R : Fin 8192) (o : Fin 128) :
    mxuOut (rowsX m d) (rowsH m d) (ix2 R o) = best (rowsX m d) (rowsN m d) R o := by
  have e := pay_apply (blockX (rowsX m d) (⟨R.val / 2048, by omega⟩ : Fin 4)) (rowsH m d) (⟨R.val % 2048, by omega⟩ : Fin 2048) o
  rw [ix2_eq_valueIdx] at e
  rw [ix2_eq_valueIdx]
  refine Eq.trans e (congrArg (max9 (F := Ideal)) (funext fun j => ?_))
  rw [← ix2_eq_valueIdx]
  refine (Finset.sum_congr rfl fun k _ => congrArg₂ (· * ·) (blockX_apply _ R k) ((rowsH_apply m d hN k _).trans ?_)).trans
    (oneHot_sum (fun k => rowsX m d (ix2 R k)) (nbr (rowsN m d) j o))
  have h1 : (⟨(128 * j.val + o.val) / 128, by omega⟩ : Fin 9) = j := Fin.ext (by dsimp only; omega)
  have h2 : (⟨(128 * j.val + o.val) % 128, by omega⟩ : Fin 128) = o := Fin.ext (by dsimp only; omega)
  dsimp only
  rw [h1, h2]

/-- The array of pooled rows, read in the arguments. -/
theorem rows_apply (R : Fin 8192) (o : Fin 128) :
    best (rowsX m d) (rowsN m d) R o = pooled (argX m d) (argN m d)
      (ix3 (⟨R.val / 256, by omega⟩ : Fin 32) (⟨R.val % 256, by omega⟩ : Fin 256) o) := by
  refine congrArg (max9 (F := Ideal)) (funext fun j => ?_)
  rw [← ix2_eq_valueIdx, rowsX_apply, nbr_eq, rowsN_apply]
  rfl

/-- The result, before its last reshape. -/
theorem update_apply (hN : InRange (rowsN m d)) (R : Fin 8192) (o : Fin 128) :
    Host.dynamicUpdateSlice (mxuEnd (rowsX m d) (rowsH m d) (rowsR m d)) (scOut (rowsX m d) (rowsN m d))
      (fun k => ((![constantI S_ 32 6144#32, constantI S_ 32 0#32] : Fin 2 → IVec S_ 32) k (Shape.Idx.first h_S_)).toInt)
      updateFits_S8192x128_S2048x128 (ix2 R o) = best (rowsX m d) (rowsN m d) R o := by
  rw [WordCmp.dynamicUpdateSlice_eq_update _ _ _ _ ![6144, 0] (by decide) (by decide)]
  pointwise
  have hR := R.isLt
  by_cases h : 6144 ≤ R.val
  · rw [dif_pos (by omega)]
    rw [ix2_eq_valueIdx]
    refine congrArg (fun q : Fin 8192 => best (rowsX m d) (rowsN m d) q o) (Fin.ext ?_)
    show 6144 + (R.val - 6144) = R.val
    omega
  · rw [dif_neg (by omega), ← mxuOut_apply m d hN]
    rw [ix2_eq_valueIdx]
    exact if_pos (by show R.val < 6144; omega)

/-- What the program returns: the pooled array. -/
theorem end_v14 (hN : InRange (rowsN m d)) : vEnd m d (ref main_v14) = pooled (argX m d) (argN m d) := by
  have e : vEnd m d (ref main_v14) = shapeCast S32x256x128
      (Host.dynamicUpdateSlice (mxuEnd (rowsX m d) (rowsH m d) (rowsR m d)) (scOut (rowsX m d) (rowsN m d))
        (fun k => ((![constantI S_ 32 6144#32, constantI S_ 32 0#32] : Fin 2 → IVec S_ 32) k (Shape.Idx.first h_S_)).toInt)
        updateFits_S8192x128_S2048x128) shapeCasts_S8192x128_S32x256x128 := by
    unfold vEnd hostPost
    after_results
    rw [mid_v11, mid_v12]
    refine congrArg (fun st => shapeCast S32x256x128
      (Host.dynamicUpdateSlice (mxuEnd (rowsX m d) (rowsH m d) (rowsR m d)) (scOut (rowsX m d) (rowsN m d)) st
        updateFits_S8192x128_S2048x128) shapeCasts_S8192x128_S32x256x128) (funext fun k => ?_)
    match k with
    | 0 => after_results; rfl
    | 1 => after_results; rfl
  rw [e]
  funext y
  idx_vars y
  generalize hu : Host.dynamicUpdateSlice _ _ _ _ = u
  pointwise
  rw [← hu]
  refine (update_apply m d hN _ y2).trans ((rows_apply m d _ y2).trans ?_)
  have h1 : (⟨(y0.val * 256 + y1.val) / 256, by omega⟩ : Fin 32) = y0 := Fin.ext (by dsimp only; omega)
  have h2 : (⟨(y0.val * 256 + y1.val) % 256, by omega⟩ : Fin 256) = y1 := Fin.ext (by dsimp only; omega)
  dsimp only
  rw [h1, h2]

end Product

end Cert.Proof.Pool
-- ==== Proof.RefValue.lean ====
module

public import proofs.«01_k».proof.Proof.KernelValue
public import proofs.«01_k».proof.Proof.RefRun
public import Idealize.ShloMosaic.Lib.ReduceAll

@[expose] public section

set_option maxRecDepth 16384

noncomputable section

/-! # What the reference computes over the extended reals

It takes every node's neighbours, their maximum, the nodes of every second group of eight, and of each of
those groups the first four. With every neighbour in range no taken element is masked. -/

namespace Cert.Proof.Pool

open Cert.ReferenceIdeal Cert.ReferenceIdeal.Gen

open Idealize.ShloMosaic

/-! ## Index words -/

/-- A word in range is not negative: wrapping leaves it alone. -/
theorem wrap_word (w : BitVec 32) (h : w.toNat < 512) :
    Scalar.select (IntOp.cmpi .slt w 0#32) (IntOp.addi w 512#32) w = w := by
  have e : w.slt 0#32 = false := by
    simp only [BitVec.slt_eq_decide, BitVec.toInt_eq_toNat_cond, BitVec.toNat_ofNat, Nat.reducePow, Nat.reduceMod]
    simp only [decide_eq_false_iff_not]
    omega
  simp only [IntOp.cmpi, e]
  rfl

/-- A word in range passes the test that it names an element. -/
theorem mask_word (w : BitVec 32) (h : w.toNat < 512) :
    IntOp.andi (IntOp.cmpi .sge w 0#32) (IntOp.cmpi .sle w 511#32) = 1#1 := by
  have e0 : (0#32).sle w = true := by
    simp only [BitVec.sle_eq_decide, BitVec.toInt_eq_toNat_cond, BitVec.toNat_ofNat, Nat.reducePow, Nat.reduceMod, decide_eq_true_eq]
    omega
  have e1 : w.sle 511#32 = true := by
    simp only [BitVec.sle_eq_decide, BitVec.toInt_eq_toNat_cond, BitVec.toNat_ofNat, Nat.reducePow, Nat.reduceMod, decide_eq_true_eq]
    omega
  simp only [IntOp.cmpi, e0, e1]
  rfl

/-- Read signed and clamped into a row, a word in range is itself. -/
theorem clamp_word (w : BitVec 32) (h : w.toNat < 512) : min w.toInt.toNat (512 - 1) = w.toNat := by
  rw [BitVec.toInt_eq_toNat_cond]
  split <;> omega

/-! ## The two gathers -/

variable {F : FTy → Type} [FloatOps F]

/-- The first gather at an index: the operand along its last axis at the index word there. -/
theorem gather_nodes {α : Type} (x : S32x256x512.Idx → α) (idx : IVec S512x9x1 32) (b : Fin 32) (f : Fin 256) (i : Fin 512) (j : Fin 9) :
    Host.gather gather_S32x256x512_S512x9x1_S32x256x512x9_01_2_n_n_2_2_322561 x idx (ix4 b f i j)
      = x (ix3 b f (⟨min (idx (ix3 i j (0 : Fin 1))).toInt.toNat (512 - 1), by omega⟩ : Fin 512)) := by
  unfold Host.gather
  refine congrArg x (funext fun a => Fin.ext ?_)
  show GatherDims.start _ _ _ _ + GatherDims.batchCoord _ _ _ + GatherDims.offCoord _ _ _ = _
  rw [GatherDims.batchCoord_eq_zero _ _ _ List.not_mem_nil]
  have e0 : ∀ X : Fin 4, X = 0 → (ix4 b f i j X).val = b.val := fun X h => by subst h; rfl
  have e1 : ∀ X : Fin 4, X = 1 → (ix4 b f i j X).val = f.val := fun X h => by subst h; rfl
  have e2 : ∀ X : Fin 4, X = 2 → (ix4 b f i j X).val = i.val := fun X h => by subst h; rfl
  have e3 : ∀ X : Fin 4, X = 3 → (ix4 b f i j X).val = j.val := fun X h => by subst h; rfl
  match a with
  | 0 =>
    unfold GatherDims.start GatherDims.offCoord
    rw [dif_neg (by decide), dif_pos (by decide), Nat.zero_add]
    exact e0 _ (by decide)
  | 1 =>
    unfold GatherDims.start GatherDims.offCoord
    rw [dif_neg (by decide), dif_pos (by decide), Nat.zero_add]
    exact e1 _ (by decide)
  | 2 =>
    unfold GatherDims.start GatherDims.offCoord
    rw [dif_pos (by decide), dif_neg (by decide), Nat.add_zero]
    refine congrArg (fun q => min (BitVec.toInt (idx q)).toNat (512 - 1)) (funext fun c => Fin.ext ?_)
    unfold GatherDims.siIdx GatherDims.siCoord
    match c with
    | 0 =>
      rw [dif_neg (by decide)]
      exact e2 _ (by decide)
    | 1 =>
      rw [dif_neg (by decide)]
      exact e3 _ (by decide)
    | 2 => rw [dif_pos (by decide)]; rfl

/-- The second gather at an index. -/
theorem gather_kept {α : Type} (x : S32x256x512.Idx → α) (idx : IVec S256x1 32) (b : Fin 32) (f : Fin 256) (i : Fin 256) :
    Host.gather gather_S32x256x512_S256x1_S32x256x256_01_2_n_n_2_1_322561 x idx (ix3 b f i)
      = x (ix3 b f (⟨min (idx (ix2 i (0 : Fin 1))).toInt.toNat (512 - 1), by omega⟩ : Fin 512)) := by
  unfold Host.gather
  refine congrArg x (funext fun a => Fin.ext ?_)
  show GatherDims.start _ _ _ _ + GatherDims.batchCoord _ _ _ + GatherDims.offCoord _ _ _ = _
  rw [GatherDims.batchCoord_eq_zero _ _ _ List.not_mem_nil]
  have e0 : ∀ X : Fin 3, X = 0 → (ix3 b f i X).val = b.val := fun X h => by subst h; rfl
  have e1 : ∀ X : Fin 3, X = 1 → (ix3 b f i X).val = f.val := fun X h => by subst h; rfl
  have e2 : ∀ X : Fin 3, X = 2 → (ix3 b f i X).val = i.val := fun X h => by subst h; rfl
  match a with
  | 0 =>
    unfold GatherDims.start GatherDims.offCoord
    rw [dif_neg (by decide), dif_pos (by decide), Nat.zero_add]
    exact e0 _ (by decide)
  | 1 =>
    unfold GatherDims.start GatherDims.offCoord
    rw [dif_neg (by decide), dif_pos (by decide), Nat.zero_add]
    exact e1 _ (by decide)
  | 2 =>
    unfold GatherDims.start GatherDims.offCoord
    rw [dif_pos (by decide), dif_neg (by decide), Nat.add_zero]
    refine congrArg (fun q => min (BitVec.toInt (idx q)).toNat (512 - 1)) (funext fun c => Fin.ext ?_)
    unfold GatherDims.siIdx GatherDims.siCoord
    match c with
    | 0 =>
      rw [dif_neg (by decide)]
      exact e2 _ (by decide)
    | 1 => rw [dif_pos (by decide)]; rfl

/-! ## The reference's steps -/

/-- The neighbours' index words, negative ones wrapped. -/
def nodeWords (nb : IVec S512x9 32) : IVec S512x9x1 32 :=
  broadcastInDim S512x9x1 ![0, 1] bcast_S512x9_S512x9x1_0_1 (select (cmpi .slt nb (broadcastInDim S512x9 ![] bcast_S_S512x9 (constantI S_ 32 0#32)))
    (addi nb (broadcastInDim S512x9 ![] bcast_S_S512x9 (constantI S_ 32 512#32))) nb)

/-- Every node's neighbours, taken. -/
def taken (x : FVec F S32x256x512 .f32) (nb : IVec S512x9 32) : FVec F S32x256x512x9 .f32 :=
  select (broadcastInDim S32x256x512x9 ![2, 3] bcast_S512x9_S32x256x512x9_2_3 (Host.reduce IntOp.andi
      (andi (cmpi .sge (nodeWords nb) (broadcastInDim S512x9x1 ![] bcast_S_S512x9x1 (constantI S_ 32 0#32)))
        (cmpi .sle (nodeWords nb) (broadcastInDim S512x9x1 ![0, 1, 2] bcast_S1x1x1_S512x9x1_0_1_2
          (broadcastInDim S1x1x1 ![2] bcast_S1_S1x1x1_2 (constantI S1 32 511#32)))))
      (constantI S_ 1 1#1) reducesTo_S512x9x1_S512x9_d2 h_S_))
    (Host.gather gather_S32x256x512_S512x9x1_S32x256x512x9_01_2_n_n_2_2_322561 x (nodeWords nb))
    (broadcastInDim S32x256x512x9 ![] bcast_S_S32x256x512x9 (constant S_ .f32 0x7FC00000#32))

/-- Their maximum. -/
def summarized (x : FVec F S32x256x512 .f32) (nb : IVec S512x9 32) : FVec F S32x256x512 .f32 :=
  Host.reduce FloatOps.maximumf (taken x nb) (constant S_ .f32 0xFF800000#32) reducesTo_S32x256x512x9_S32x256x512_d3 h_S_

/-- The listed nodes' index words. -/
def keptWords : IVec S256x1 32 :=
  broadcastInDim S256x1 ![0] bcast_S256_S256x1_0 (select (cmpi .slt ((fun i => lit0 (S256.rowMajor i))) (broadcastInDim S256 ![] bcast_S_S256 (constantI S_ 32 0#32)))
    (addi ((fun i => lit0 (S256.rowMajor i))) (broadcastInDim S256 ![] bcast_S_S256 (constantI S_ 32 512#32))) ((fun i => lit0 (S256.rowMajor i))))

/-- The listed nodes, taken. -/
def sliced (v : FVec F S32x256x512 .f32) : FVec F S32x256x256 .f32 :=
  select (broadcastInDim S32x256x256 ![2] bcast_S256_S32x256x256_2 (Host.reduce IntOp.andi
      (andi (cmpi .sge keptWords (broadcastInDim S256x1 ![] bcast_S_S256x1 (constantI S_ 32 0#32)))
        (cmpi .sle keptWords (broadcastInDim S256x1 ![0, 1] bcast_S1x1_S256x1_0_1
          (broadcastInDim S1x1 ![1] bcast_S1_S1x1_1 (constantI S1 32 511#32)))))
      (constantI S_ 1 1#1) reducesTo_S256x1_S256_d1 h_S_))
    (Host.gather gather_S32x256x512_S256x1_S32x256x256_01_2_n_n_2_1_322561 v keptWords)
    (broadcastInDim S32x256x256 ![] bcast_S_S32x256x256 (constant S_ .f32 0x7FC00000#32))

/-- The first four of each listed group of eight: what the reference returns. -/
def refOut (x : FVec F S32x256x512 .f32) (nb : IVec S512x9 32) : FVec F S32x256x128 .f32 :=
  shapeCast S32x256x128 (extractStridedSlice S32x256x32x4 ![0, 0, 0, 0] (shapeCast S32x256x32x8 (sliced (summarized x nb))
    shapeCasts_S32x256x256_S32x256x32x8) slices_S32x256x32x8_S32x256x32x4_0_0_0_0) shapeCasts_S32x256x32x4_S32x256x128

open Idealize.SL.Sem in
/-- The reference's run, its result by the steps above. -/
theorem run_reference (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v5) = refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := F) m ρ

/-! ## The steps read at an index -/

/-- In range, the neighbours' words need no wrapping. -/
theorem nodeWords_apply (nb : IVec S512x9 32) (hN : ∀ i, (nb i).toNat < 512) (i : Fin 512) (j : Fin 9) :
    nodeWords nb (ix3 i j (0 : Fin 1)) = nb (ix2 i j) := by
  pointwise [nodeWords]
  exact wrap_word _ (hN _)

/-- In range, each taken element is the neighbour's. -/
theorem taken_apply (x : FVec F S32x256x512 .f32) (nb : IVec S512x9 32) (hN : ∀ i, (nb i).toNat < 512)
    (b : Fin 32) (f : Fin 256) (i : Fin 512) (j : Fin 9) :
    taken x nb (ix4 b f i j) = x (ix3 b f (⟨(nb (ix2 i j)).toNat % 512, Nat.mod_lt _ (by decide)⟩ : Fin 512)) := by
  unfold taken
  generalize hM : Host.reduce IntOp.andi _ _ _ _ = M
  have h1 : M (ix2 i j) = 1#1 := by
    rw [← hM]
    refine Host.reduce_andi_one _ _ _ _ _ rfl fun q => ?_
    idx_vars q
    obtain rfl : q2 = 0 := Subsingleton.elim _ _
    pointwise
    rw [nodeWords_apply nb hN]
    exact mask_word _ (hN _)
  pointwise
  rw [h1, gather_nodes]
  refine congrArg (fun k => x (ix3 b f k)) (Fin.ext ?_)
  dsimp only
  rw [nodeWords_apply nb hN, clamp_word _ (hN _), Nat.mod_eq_of_lt (hN _)]

/-- A maximum of nine from the least element is the maximum of the nine. -/
theorem fold_nine (g : Fin 9 → EReal) : Finset.univ.fold max (⊥ : EReal) g = max9 (F := Ideal) g := by
  show g 0 ⊔ (g 1 ⊔ (g 2 ⊔ (g 3 ⊔ (g 4 ⊔ (g 5 ⊔ (g 6 ⊔ (g 7 ⊔ (g 8 ⊔ ⊥))))))))
    = ((((((((g 0 ⊔ g 1) ⊔ g 2) ⊔ g 3) ⊔ g 4) ⊔ g 5) ⊔ g 6) ⊔ g 7) ⊔ g 8)
  simp only [sup_bot_eq, sup_assoc]

/-- Each node's largest neighbour. -/
theorem summarized_apply (x : FVec Ideal S32x256x512 .f32) (nb : IVec S512x9 32) (hN : ∀ i, (nb i).toNat < 512)
    (b : Fin 32) (f : Fin 256) (i : Fin 512) :
    summarized x nb (ix3 b f i)
      = max9 (F := Ideal) fun j => x (ix3 b f (⟨(nb (ix2 i j)).toNat % 512, Nat.mod_lt _ (by decide)⟩ : Fin 512)) := by
  unfold summarized
  pointwise
  simp only [taken_apply x nb hN]
  have e : Ideal.ofBits .f32 0xFF800000#32 = (⊥ : EReal) := by simp [Ideal.ofBits, Ideal.ieee]
  rw [e]
  exact fold_nine _

/-- Every listed word is in range: group `p / 8` of the listed nodes is group `2 * (p / 8)` of all. -/
theorem lit_val : ∀ p : Fin 256, (lit0 p).toNat = 16 * (p.val / 8) + p.val % 8 := by decide

theorem lit_lt (p : Fin 256) : (lit0 p).toNat < 512 := by
  rw [lit_val]
  omega

/-- The listed nodes' words need no wrapping. -/
theorem keptWords_apply (p : Fin 256) : keptWords (ix2 p (0 : Fin 1)) = lit0 p := by
  have e : S256.rowMajor (ix1 p) = p := Fin.ext (Shape.rowMajor_val_one _)
  pointwise [keptWords]
  rw [e]
  exact wrap_word _ (lit_lt p)

/-- Listed node `p` is node `p % 8` of group `2 * (p / 8)`. -/
theorem sliced_apply (v : FVec F S32x256x512 .f32) (b : Fin 32) (f : Fin 256) (p : Fin 256) :
    sliced v (ix3 b f p) = v (ix3 b f (⟨16 * (p.val / 8) + p.val % 8, by omega⟩ : Fin 512)) := by
  unfold sliced
  generalize hM : Host.reduce IntOp.andi _ _ _ _ = M
  have h1 : M (ix1 p) = 1#1 := by
    rw [← hM]
    refine Host.reduce_andi_one _ _ _ _ _ rfl fun q => ?_
    idx_vars q
    obtain rfl : q1 = 0 := Subsingleton.elim _ _
    pointwise
    rw [keptWords_apply]
    exact mask_word _ (lit_lt _)
  pointwise
  rw [h1, gather_kept]
  refine congrArg (fun k => v (ix3 b f k)) (Fin.ext ?_)
  dsimp only
  rw [keptWords_apply, clamp_word _ (lit_lt _), lit_val]

/-- The reference returns the pooled array. -/
theorem refOut_eq (x : FVec Ideal S32x256x512 .f32) (nb : IVec S512x9 32) (hN : ∀ i, (nb i).toNat < 512) :
    refOut x nb = pooled x nb := by
  funext y
  idx_vars y
  unfold refOut
  generalize hu : sliced (summarized x nb) = u
  pointwise
  rw [← hu, sliced_apply, summarized_apply x nb hN]
  have e : (⟨16 * ((y2.val / 4 * 8 + y2.val % 4) / 8) + (y2.val / 4 * 8 + y2.val % 4) % 8, by omega⟩ : Fin 512) = kept y2 :=
    Fin.ext (by unfold kept; dsimp only; omega)
  dsimp only
  rw [e]
  rfl

/-! ## The claim -/

open Idealize.SL.Sem in
/-- Over the extended reals the kernel and the reference return the same array. -/
theorem algebraic : Cert.algebraic_KernelIdeal_ReferenceIdeal := by
  intro m ρ m' ρ' hpre hargs
  have hN : ∀ d i, (argN m d i).toNat < 512 := fun d => lt_of_in_range _ _ (hpre d)
  refine ⟨fun d => pooled (argX m d) (argN m d), ?_, ?_⟩
  · refine (θ_run Cert.KernelIdeal.defs _ _).mono (fun r h d => ?_) (run_args (F := Ideal) m ρ hN)
    exact ⟨(h.1 d).1.trans (end_v14 m d (rowsN_inRange m hN d)), (h.1 d).2⟩
  · refine (θ_run Cert.ReferenceIdeal.defs _ _).mono (fun r h d => ⟨(h d).1.trans ?_, (h d).2⟩) (run_reference (F := Ideal) m' ρ')
    rw [(hargs d).1, (hargs d).2]
    exact refOut_eq _ _ (hN d)

end Cert.Proof.Pool
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Host
public import proofs.«01_k».proof.Proof.RefRun
public import proofs.«01_k».proof.Proof.RefValue

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Pre_in_range.Gen.facts,
  Pool.frame_kernel, Pool.frame_ideal, Pool.frame_reference, Pool.frame_reference_in_range, trivial, Pool.algebraic⟩

end Cert.Proof

end
